-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x16384 : Shape := ⟨3, ![2, 128, 16384]⟩
abbrev S3x1024x16x16 : Shape := ⟨4, ![3, 1024, 16, 16]⟩
abbrev S8192x5120 : Shape := ⟨2, ![8192, 5120]⟩
abbrev S128x5120 : Shape := ⟨2, ![128, 5120]⟩
abbrev S5120 : Shape := ⟨1, ![5120]⟩
abbrev S256x16384 : Shape := ⟨2, ![256, 16384]⟩
abbrev S3x16384x16 : Shape := ⟨3, ![3, 16384, 16]⟩
abbrev S256x1024 : Shape := ⟨2, ![256, 1024]⟩
abbrev S3x1024x16 : Shape := ⟨3, ![3, 1024, 16]⟩
abbrev S128x128 : Shape := ⟨2, ![128, 128]⟩
abbrev S256x256 : Shape := ⟨2, ![256, 256]⟩
abbrev S16x128 : Shape := ⟨2, ![16, 128]⟩
abbrev S1x16x16 : Shape := ⟨3, ![1, 16, 16]⟩
abbrev S16x16 : Shape := ⟨2, ![16, 16]⟩
abbrev S16x112 : Shape := ⟨2, ![16, 112]⟩
abbrev S16x128x1 : Shape := ⟨3, ![16, 128, 1]⟩
abbrev S128x256 : Shape := ⟨2, ![128, 256]⟩
abbrev S1x5120 : Shape := ⟨2, ![1, 5120]⟩
abbrev S256x5120 : Shape := ⟨2, ![256, 5120]⟩
abbrev S8192x512 : Shape := ⟨2, ![8192, 512]⟩
abbrev S128x512 : Shape := ⟨2, ![128, 512]⟩
abbrev S1x512 : Shape := ⟨2, ![1, 512]⟩
abbrev S256x512 : Shape := ⟨2, ![256, 512]⟩
abbrev S512x512 : Shape := ⟨2, ![512, 512]⟩
abbrev S512x1x512 : Shape := ⟨3, ![512, 1, 512]⟩
abbrev S512x2x512 : Shape := ⟨3, ![512, 2, 512]⟩
abbrev S1024x512 : Shape := ⟨2, ![1024, 512]⟩
abbrev S16x512 : Shape := ⟨2, ![16, 512]⟩
abbrev S2x128x5120 : Shape := ⟨3, ![2, 128, 5120]⟩

abbrev nBuf : Space → Nat
  | .hbm => 12
  | .vmem => 17
  | .smem => 0
  | _ => 0

abbrev bufTy : (tb : Table) → Fin (tcTables nBuf tb) → BufTy
  | .hbm, ⟨0, _⟩ => ⟨S2x128x16384, .bf16⟩
  | .hbm, ⟨1, _⟩ => ⟨S3x1024x16x16, .bf16⟩
  | .hbm, ⟨2, _⟩ => ⟨S8192x5120, .i8⟩
  | .hbm, ⟨3, _⟩ => ⟨S128x5120, .bf16⟩
  | .hbm, ⟨4, _⟩ => ⟨S5120, .f32⟩
  | .hbm, ⟨5, _⟩ => ⟨S256x16384, .bf16⟩
  | .hbm, ⟨6, _⟩ => ⟨S3x16384x16, .bf16⟩
  | .hbm, ⟨7, _⟩ => ⟨S256x16384, .bf16⟩
  | .hbm, ⟨8, _⟩ => ⟨S1x5120, .f32⟩
  | .hbm, ⟨9, _⟩ => ⟨S256x5120, .bf16⟩
  | .hbm, ⟨10, _⟩ => ⟨S2x128x5120, .bf16⟩
  | .hbm, ⟨11, _⟩ => ⟨S2x128x16384, .bf16⟩
  | .local _ .vmem, ⟨0, _⟩ => ⟨S256x1024, .bf16⟩
  | .local _ .vmem, ⟨1, _⟩ => ⟨S256x1024, .bf16⟩
  | .local _ .vmem, ⟨2, _⟩ => ⟨S3x1024x16, .bf16⟩
  | .local _ .vmem, ⟨3, _⟩ => ⟨S3x1024x16, .bf16⟩
  | .local _ .vmem, ⟨4, _⟩ => ⟨S256x1024, .bf16⟩
  | .local _ .vmem, ⟨5, _⟩ => ⟨S256x1024, .bf16⟩
  | .local _ .vmem, ⟨6, _⟩ => ⟨S256x16384, .bf16⟩
  | .local _ .vmem, ⟨7, _⟩ => ⟨S8192x512, .i8⟩
  | .local _ .vmem, ⟨8, _⟩ => ⟨S8192x512, .i8⟩
  | .local _ .vmem, ⟨9, _⟩ => ⟨S128x512, .bf16⟩
  | .local _ .vmem, ⟨10, _⟩ => ⟨S128x512, .bf16⟩
  | .local _ .vmem, ⟨11, _⟩ => ⟨S1x512, .f32⟩
  | .local _ .vmem, ⟨12, _⟩ => ⟨S1x512, .f32⟩
  | .local _ .vmem, ⟨13, _⟩ => ⟨S256x512, .bf16⟩
  | .local _ .vmem, ⟨14, _⟩ => ⟨S256x512, .bf16⟩
  | .local _ .vmem, ⟨15, _⟩ => ⟨S128x512, .f32⟩
  | .local _ .vmem, ⟨16, _⟩ => ⟨S256x512, .f32⟩
  | _, _ => ⟨S2x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1024x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

@[reducible] def k1_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c512_i32 : BitVec 32 := 512#32
  let v17 : BitVec 32 := Scalar.muli arg8 c512_i32
  v17
def k1_off1 (k1_t1 : Fin k1_t1_loop.trips) : Fin 2 → Nat :=
  let c0_i32 : BitVec 32 := 0#32
  let c1_i32 : BitVec 32 := 1#32
  let arg8 : BitVec 32 := Scf.iv c0_i32 c1_i32 k1_t1
  let c512_i32 : BitVec 32 := 512#32
  let v17 : BitVec 32 := Scalar.muli arg8 c512_i32
  let v18 : BitVec 32 := v17
  let v19 : Index := Scalar.indexCast v18
  let c0_12 : Index := 0#32
  ![v19.toNat, 0]
def k1_off2 (k1_t1 : Fin k1_t1_loop.trips) (c0_i32_15 : BitVec 32) : Fin 2 → Nat :=
  let c0_i32 : BitVec 32 := 0#32
  let c1_i32 : BitVec 32 := 1#32
  let arg8 : BitVec 32 := Scf.iv c0_i32 c1_i32 k1_t1
  let c8_i32 : BitVec 32 := 8#32
  let v35 : BitVec 32 := Scalar.muli arg8 c8_i32
  let v36 : BitVec 32 := Scalar.addi v35 c0_i32_15
  let v37 : Index := Scalar.indexCast v36
  let c0_16 : Index := 0#32
  ![v37.toNat, 0]
def k1_mult2 (k1_t1 : Fin k1_t1_loop.trips) : BitVec 32 :=
  let c0_i32 : BitVec 32 := 0#32
  let c1_i32 : BitVec 32 := 1#32
  let arg8 : BitVec 32 := Scf.iv c0_i32 c1_i32 k1_t1
  let c1024_i32 : BitVec 32 := 1024#32
  let v220 : BitVec 32 := Scalar.muli arg8 c1024_i32
  v220
def k1_off3 (k1_t1 : Fin k1_t1_loop.trips) : Fin 2 → Nat :=
  let c0_32 : Index := 0#32
  let c0_i32 : BitVec 32 := 0#32
  let c1_i32 : BitVec 32 := 1#32
  let arg8 : BitVec 32 := Scf.iv c0_i32 c1_i32 k1_t1
  let c1024_i32 : BitVec 32 := 1024#32
  let v220 : BitVec 32 := Scalar.muli arg8 c1024_i32
  let v221 : BitVec 32 := v220
  let v222 : Index := Scalar.indexCast v221
  ![0, v222.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x16384 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S2x128x16384 : Shape := ⟨3, ![2, 128, 16384]⟩
abbrev S3x1024x16x16 : Shape := ⟨4, ![3, 1024, 16, 16]⟩
abbrev S8192x5120 : Shape := ⟨2, ![8192, 5120]⟩
abbrev S128x5120 : Shape := ⟨2, ![128, 5120]⟩
abbrev S5120 : Shape := ⟨1, ![5120]⟩
abbrev S2x128x1024x16x1 : Shape := ⟨5, ![2, 128, 1024, 16, 1]⟩
abbrev S1x1024x16x16 : Shape := ⟨4, ![1, 1024, 16, 16]⟩
abbrev S1024x16x16 : Shape := ⟨3, ![1024, 16, 16]⟩
abbrev S1024x1x16x16 : Shape := ⟨4, ![1024, 1, 16, 16]⟩
abbrev S1024x1x16x2x128 : Shape := ⟨5, ![1024, 1, 16, 2, 128]⟩
abbrev S2x128x512x16x2 : Shape := ⟨5, ![2, 128, 512, 16, 2]⟩
abbrev S512x2x16x16 : Shape := ⟨4, ![512, 2, 16, 16]⟩
abbrev S512x2x16x2x128 : Shape := ⟨5, ![512, 2, 16, 2, 128]⟩
abbrev S2x128x256x16x4 : Shape := ⟨5, ![2, 128, 256, 16, 4]⟩
abbrev S256x4x16x16 : Shape := ⟨4, ![256, 4, 16, 16]⟩
abbrev S256x4x16x2x128 : Shape := ⟨5, ![256, 4, 16, 2, 128]⟩
abbrev S128x64x5120 : Shape := ⟨3, ![128, 64, 5120]⟩
abbrev S_ : Shape := ⟨0, ![]⟩
abbrev S2x128x8192 : Shape := ⟨3, ![2, 128, 8192]⟩
abbrev S2x128x5120 : Shape := ⟨3, ![2, 128, 5120]⟩
abbrev S1x1x5120 : Shape := ⟨3, ![1, 1, 5120]⟩

abbrev nBuf : Space → Nat
  | .hbm => 65
  | .vmem => 0
  | .smem => 0
  | _ => 0

abbrev bufTy : (tb : Table) → Fin (tcTables nBuf tb) → BufTy
  | .hbm, ⟨0, _⟩ => ⟨S2x128x16384, .bf16⟩
  | .hbm, ⟨1, _⟩ => ⟨S3x1024x16x16, .bf16⟩
  | .hbm, ⟨2, _⟩ => ⟨S8192x5120, .i8⟩
  | .hbm, ⟨3, _⟩ => ⟨S128x5120, .bf16⟩
  | .hbm, ⟨4, _⟩ => ⟨S5120, .f32⟩
  | .hbm, ⟨5, _⟩ => ⟨S2x128x1024x16x1, .bf16⟩
  | .hbm, ⟨6, _⟩ => ⟨S1x1024x16x16, .bf16⟩
  | .hbm, ⟨7, _⟩ => ⟨S1024x16x16, .bf16⟩
  | .hbm, ⟨8, _⟩ => ⟨S1024x1x16x16, .bf16⟩
  | .hbm, ⟨9, _⟩ => ⟨S1024x1x16x2x128, .f32⟩
  | .hbm, ⟨10, _⟩ => ⟨S2x128x1024x16x1, .f32⟩
  | .hbm, ⟨11, _⟩ => ⟨S2x128x16384, .f32⟩
  | .hbm, ⟨12, _⟩ => ⟨S2x128x16384, .bf16⟩
  | .hbm, ⟨13, _⟩ => ⟨S2x128x512x16x2, .bf16⟩
  | .hbm, ⟨14, _⟩ => ⟨S1x1024x16x16, .bf16⟩
  | .hbm, ⟨15, _⟩ => ⟨S1024x16x16, .bf16⟩
  | .hbm, ⟨16, _⟩ => ⟨S512x2x16x16, .bf16⟩
  | .hbm, ⟨17, _⟩ => ⟨S512x2x16x2x128, .f32⟩
  | .hbm, ⟨18, _⟩ => ⟨S2x128x512x16x2, .f32⟩
  | .hbm, ⟨19, _⟩ => ⟨S2x128x16384, .f32⟩
  | .hbm, ⟨20, _⟩ => ⟨S2x128x16384, .bf16⟩
  | .hbm, ⟨21, _⟩ => ⟨S2x128x256x16x4, .bf16⟩
  | .hbm, ⟨22, _⟩ => ⟨S1x1024x16x16, .bf16⟩
  | .hbm, ⟨23, _⟩ => ⟨S1024x16x16, .bf16⟩
  | .hbm, ⟨24, _⟩ => ⟨S256x4x16x16, .bf16⟩
  | .hbm, ⟨25, _⟩ => ⟨S256x4x16x2x128, .f32⟩
  | .hbm, ⟨26, _⟩ => ⟨S2x128x256x16x4, .f32⟩
  | .hbm, ⟨27, _⟩ => ⟨S2x128x16384, .f32⟩
  | .hbm, ⟨28, _⟩ => ⟨S2x128x16384, .bf16⟩
  | .hbm, ⟨29, _⟩ => ⟨S128x64x5120, .bf16⟩
  | .hbm, ⟨30, _⟩ => ⟨S8192x5120, .bf16⟩
  | .hbm, ⟨31, _⟩ => ⟨S8192x5120, .i32⟩
  | .hbm, ⟨32, _⟩ => ⟨S_, .i32⟩
  | .hbm, ⟨33, _⟩ => ⟨S8192x5120, .i32⟩
  | .hbm, ⟨34, _⟩ => ⟨S8192x5120, .i32⟩
  | .hbm, ⟨35, _⟩ => ⟨S_, .i32⟩
  | .hbm, ⟨36, _⟩ => ⟨S8192x5120, .i32⟩
  | .hbm, ⟨37, _⟩ => ⟨S8192x5120, .i1⟩
  | .hbm, ⟨38, _⟩ => ⟨S_, .i32⟩
  | .hbm, ⟨39, _⟩ => ⟨S8192x5120, .i32⟩
  | .hbm, ⟨40, _⟩ => ⟨S8192x5120, .i32⟩
  | .hbm, ⟨41, _⟩ => ⟨S8192x5120, .i32⟩
  | .hbm, ⟨42, _⟩ => ⟨S8192x5120, .bf16⟩
  | .hbm, ⟨43, _⟩ => ⟨S8192x5120, .bf16⟩
  | .hbm, ⟨44, _⟩ => ⟨S_, .i32⟩
  | .hbm, ⟨45, _⟩ => ⟨S8192x5120, .i32⟩
  | .hbm, ⟨46, _⟩ => ⟨S8192x5120, .i32⟩
  | .hbm, ⟨47, _⟩ => ⟨S_, .i32⟩
  | .hbm, ⟨48, _⟩ => ⟨S8192x5120, .i32⟩
  | .hbm, ⟨49, _⟩ => ⟨S8192x5120, .i1⟩
  | .hbm, ⟨50, _⟩ => ⟨S_, .i32⟩
  | .hbm, ⟨51, _⟩ => ⟨S8192x5120, .i32⟩
  | .hbm, ⟨52, _⟩ => ⟨S8192x5120, .i32⟩
  | .hbm, ⟨53, _⟩ => ⟨S8192x5120, .i32⟩
  | .hbm, ⟨54, _⟩ => ⟨S8192x5120, .bf16⟩
  | .hbm, ⟨55, _⟩ => ⟨S8192x5120, .bf16⟩
  | .hbm, ⟨56, _⟩ => ⟨S2x128x8192, .bf16⟩
  | .hbm, ⟨57, _⟩ => ⟨S2x128x5120, .f32⟩
  | .hbm, ⟨58, _⟩ => ⟨S2x128x8192, .bf16⟩
  | .hbm, ⟨59, _⟩ => ⟨S2x128x5120, .f32⟩
  | .hbm, ⟨60, _⟩ => ⟨S2x128x5120, .f32⟩
  | .hbm, ⟨61, _⟩ => ⟨S1x1x5120, .f32⟩
  | .hbm, ⟨62, _⟩ => ⟨S2x128x5120, .f32⟩
  | .hbm, ⟨63, _⟩ => ⟨S2x128x5120, .f32⟩
  | .hbm, ⟨64, _⟩ => ⟨S2x128x5120, .bf16⟩
  | _, _ => ⟨S2x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_c_0 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_v36 : Ref sig .tc := ⟨.hbm, 45, rfl⟩
abbrev main_v37 : Ref sig .tc := ⟨.hbm, 46, rfl⟩
abbrev main_c_3 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.RefFrame.lean ====
/- The reference runs, leaves its arguments unchanged and every counter at zero. -/
module

public import proofs.«01_k».proof.Defs
public import proofs.«01_k».proof.Proof.Gen.ReferenceIdeal.Run
public import Idealize.ShloMosaic.Lib.Claim

@[expose] public section

set_option maxRecDepth 16384

noncomputable section

namespace Cert.ReferenceIdeal.Hand

open Idealize.ShloMosaic Idealize.ShloMosaic.TcCoe Idealize.SL.Sem

/-- The reference's frame: its run leaves the arguments as launched, and it declares no semaphore at all. -/
theorem frame_ref : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

end Cert.ReferenceIdeal.Hand

end
-- ==== Proof.Run.lean ====
/- The kernel's run with its two results named: each ends at what the chain of boundary contents holds at it. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, nothing faulting; the two results hold what the last boundary's
    contents say, and the arguments are as launched. -/
theorem run_results : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v5 (by decide)),
       h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Hand

end
-- ==== Proof.Host.lean ====
/- The boundary contents at the arrays the host operations make: each is a reshape of what was there before. -/
module

public import proofs.«01_k».proof.Proof.Run
public import Idealize.ShloMosaic.Lib.Claim

@[expose] public section

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD)

/-- The rotation's input: the tokens, batch and position as one axis. -/
theorem W1_v0 : W1 m ρ c (Proc.devRef .tc main_v0)
    = shapeCast S256x16384 (m ((c.tc : Thread nD τ).loc main_arg0) : Vec F S2x128x16384 .bf16) shapeCasts_S2x128x16384_S256x16384 := by
  unfold_abbrev_sides
  after_results
  rfl

/-- The rotation's blocks, block and row as one axis. -/
theorem W1_v1 : W1 m ρ c (Proc.devRef .tc main_v1)
    = shapeCast S3x16384x16 (m ((c.tc : Thread nD τ).loc main_arg1) : Vec F S3x1024x16x16 .bf16) shapeCasts_S3x1024x16x16_S3x16384x16 := by
  unfold_abbrev_sides
  after_results
  rfl

/-- The product's channel scales as a row. -/
theorem W3_v3 : W3 m ρ c (Proc.devRef .tc main_v3)
    = shapeCast S1x5120 (W2 m ρ c (Proc.devRef .tc main_arg4) : Vec F S5120 .f32) shapeCasts_S5120_S1x5120 := by
  unfold_abbrev_sides
  after_results
  rfl

/-- The first result: the product, batch and position as two axes. -/
theorem W5_v5 : W5 m ρ c (Proc.devRef .tc main_v5)
    = shapeCast S2x128x5120 (W4 m ρ c (Proc.devRef .tc main_v4) : Vec F S256x5120 .bf16) shapeCasts_S256x5120_S2x128x5120 := by
  unfold_abbrev_sides
  after_results
  rfl

/-- The second result: the rotated tokens, batch and position as two axes. -/
theorem W5_v6 : W5 m ρ c (Proc.devRef .tc main_v6)
    = shapeCast S2x128x16384 (W4 m ρ c (Proc.devRef .tc main_v2) : Vec F S256x16384 .bf16) shapeCasts_S256x16384_S2x128x16384 := by
  unfold_abbrev_sides
  after_results
  rfl

end Cert.KernelIdeal.Hand

end
-- ==== Proof.RotSpec.lean ====
/- The rotation as index arithmetic on the extended reals: three steps over the channels in their own order
   (`rstep`), and three steps that keep the channels permuted in between (`gstep`); the two give the same result. -/
module

public import Mathlib.Data.EReal.Operations
public import Mathlib.Algebra.BigOperators.Fin
public import Mathlib.Tactic.FinCases

@[expose] public section

noncomputable section

namespace Cert.Rot

open scoped BigOperators

/-! ### The lane maps of the three steps: which block of its 128-lane half a lane belongs to, which column it is -/

def kk0 (p : Fin 128) : Fin 16 := ⟨2 * (p.val % 8) + p.val / 16 % 2, by omega⟩
def bb0 (p : Fin 128) : Fin 8 := ⟨2 * (p.val / 32) + p.val / 8 % 2, by omega⟩
def ch1 (p : Fin 128) : Fin 64 := ⟨4 * (p.val % 16) + p.val / 16 % 4, by omega⟩
def kk1 (p : Fin 128) : Fin 16 := ⟨(ch1 p).val % 32 / 2, by omega⟩
def bb1 (p : Fin 128) : Fin 8 := ⟨4 * (p.val / 64) + 2 * ((ch1 p).val / 32) + (ch1 p).val % 2, by omega⟩
def kk2 (p : Fin 128) : Fin 16 := ⟨p.val % 64 / 4, by omega⟩
def bb2 (p : Fin 128) : Fin 8 := ⟨4 * (p.val / 64) + p.val % 4, by omega⟩

/-- Row `j` of block `b`. -/
def at16 (b : Fin 1024) (j : Fin 16) : Fin 16384 := ⟨16 * b.val + j.val, by omega⟩
/-- The lane of a channel within its 128. -/
def lane (c : Fin 16384) : Fin 128 := ⟨c.val % 128, by omega⟩
/-- The block a channel belongs to, by its lane. -/
def blkK (bb : Fin 128 → Fin 8) (c : Fin 16384) : Fin 1024 := ⟨8 * (c.val / 128) + (bb (lane c)).val, by omega⟩

/-- One step in the permuted order. -/
def gstep (bb : Fin 128 → Fin 8) (kk : Fin 128 → Fin 16) (W : Fin 16384 → Fin 16 → EReal)
    (Z : Fin 256 → Fin 16384 → EReal) (n : Fin 256) (c : Fin 16384) : EReal :=
  ∑ j : Fin 16, Z n (at16 (blkK bb c) j) * W (at16 (blkK bb c) j) (kk (lane c))

/-- One step in the channels' own order: a channel's sixteen sources, its block and its column. -/
def rstep (src : Fin 16384 → Fin 16 → Fin 16384) (blk : Fin 16384 → Fin 1024) (k : Fin 16384 → Fin 16)
    (W : Fin 16384 → Fin 16 → EReal) (Z : Fin 256 → Fin 16384 → EReal) (n : Fin 256) (c : Fin 16384) : EReal :=
  ∑ j : Fin 16, Z n (src c j) * W (at16 (blk c) j) (k c)

def src0 (c : Fin 16384) (j : Fin 16) : Fin 16384 := ⟨16 * (c.val / 16) + j.val, by omega⟩
def nb0 (c : Fin 16384) : Fin 1024 := ⟨c.val / 16, by omega⟩
def nk0 (c : Fin 16384) : Fin 16 := ⟨c.val % 16, by omega⟩
def src1 (c : Fin 16384) (j : Fin 16) : Fin 16384 := ⟨32 * (c.val / 32) + 2 * j.val + c.val % 2, by omega⟩
def nb1 (c : Fin 16384) : Fin 1024 := ⟨2 * (c.val / 32) + c.val % 2, by omega⟩
def nk1 (c : Fin 16384) : Fin 16 := ⟨c.val / 2 % 16, by omega⟩
def src2 (c : Fin 16384) (j : Fin 16) : Fin 16384 := ⟨64 * (c.val / 64) + 4 * j.val + c.val % 4, by omega⟩
def nb2 (c : Fin 16384) : Fin 1024 := ⟨4 * (c.val / 64) + c.val % 4, by omega⟩
def nk2 (c : Fin 16384) : Fin 16 := ⟨c.val / 4 % 16, by omega⟩

/-- The channel held at a position after the first step, and after the second. -/
def L1 (c : Fin 16384) : Fin 16384 := ⟨32 * (c.val / 32) + 2 * (c.val % 16) + c.val / 16 % 2, by omega⟩
def L2 (c : Fin 16384) : Fin 16384 := ⟨64 * (c.val / 64) + 4 * (c.val % 16) + c.val / 16 % 4, by omega⟩

/-- A permuted step is the step in the channels' own order, read through the layouts before and after it. -/
theorem gstep_eq {bb kk src blk k} (La Lb : Fin 16384 → Fin 16384)
    (hs : ∀ c j, La (at16 (blkK bb c) j) = src (Lb c) j) (hb : ∀ c, blkK bb c = blk (Lb c))
    (hk : ∀ c, kk (lane c) = k (Lb c)) (W : Fin 16384 → Fin 16 → EReal) (Zk Z : Fin 256 → Fin 16384 → EReal)
    (hZ : ∀ n c, Zk n c = Z n (La c)) (n : Fin 256) (c : Fin 16384) :
    gstep bb kk W Zk n c = rstep src blk k W Z n (Lb c) := by
  refine Finset.sum_congr rfl fun j _ => ?_
  rw [hZ, hs, hb, hk]

/-- The rotation in the permuted order. -/
def grot (W : Fin 3 → Fin 16384 → Fin 16 → EReal) (Z : Fin 256 → Fin 16384 → EReal) : Fin 256 → Fin 16384 → EReal :=
  gstep bb2 kk2 (W 2) (gstep bb1 kk1 (W 1) (gstep bb0 kk0 (W 0) Z))

/-- The rotation in the channels' own order. -/
def rrot (W : Fin 3 → Fin 16384 → Fin 16 → EReal) (Z : Fin 256 → Fin 16384 → EReal) : Fin 256 → Fin 16384 → EReal :=
  rstep src2 nb2 nk2 (W 2) (rstep src1 nb1 nk1 (W 1) (rstep src0 nb0 nk0 (W 0) Z))

/-- A channel from its 128-lane half and its lane. -/
def chan (a l : Fin 128) : Fin 16384 := ⟨128 * a.val + l.val, by omega⟩

/-- A property of every channel, checked half by half and lane by lane. -/
theorem all_chan {p : Fin 16384 → Prop} (h : ∀ a l, p (chan a l)) (c : Fin 16384) : p c := by
  have e : chan ⟨c.val / 128, by omega⟩ (lane c) = c := by
    apply Fin.ext; simp only [chan, lane]; omega
  rw [← e]; exact h _ _

theorem blk0 : ∀ c, blkK bb0 c = nb0 (L1 c) := all_chan (by decide +kernel)
theorem blk1 : ∀ c, blkK bb1 c = nb1 (L2 c) := all_chan (by decide +kernel)
theorem blk2 : ∀ c, blkK bb2 c = nb2 c := all_chan (by decide +kernel)
theorem col0 : ∀ c, kk0 (lane c) = nk0 (L1 c) := all_chan (by decide +kernel)
theorem col1 : ∀ c, kk1 (lane c) = nk1 (L2 c) := all_chan (by decide +kernel)
theorem col2 : ∀ c, kk2 (lane c) = nk2 c := all_chan (by decide +kernel)

/-- Where a block's channels are held before the step is where the step reads them. -/
theorem lay0 (d : Fin 16384) (j : Fin 16) : at16 (nb0 d) j = src0 d j := rfl
theorem lay1 (d : Fin 16384) (j : Fin 16) : L1 (at16 (nb1 d) j) = src1 d j := by
  apply Fin.ext; simp only [L1, at16, nb1, src1]; omega
theorem lay2 (d : Fin 16384) (j : Fin 16) : L2 (at16 (nb2 d) j) = src2 d j := by
  apply Fin.ext; simp only [L2, at16, nb2, src2]; omega

/-- The two rotations are one function. -/
theorem grot_eq (W : Fin 3 → Fin 16384 → Fin 16 → EReal) (Z : Fin 256 → Fin 16384 → EReal) : grot W Z = rrot W Z := by
  funext n c
  exact gstep_eq L2 id (fun c j => by rw [blk2]; exact lay2 c j) blk2 col2 (W 2) _ _
    (fun n c => gstep_eq L1 L2 (fun c j => by rw [blk1]; exact lay1 _ j) blk1 col1 (W 1) _ _
      (fun n c => gstep_eq id L1 (fun c j => by rw [blk0]; exact lay0 _ j) blk0 col0 (W 0) _ _ (fun _ _ => rfl) n c)
      n c) n c

end Cert.Rot

end
-- ==== Proof.Arrays.lean ====
/- The arguments as functions of plain indices, for both programs. -/
module

public import proofs.«01_k».proof.Proof.RotSpec
public import Idealize.ShloMosaic.Lib.ValueIdx

@[expose] public section

noncomputable section

namespace Cert.Rot

open Idealize.ShloMosaic ValueIdx

/-- The tokens' channels: batch and position are one row number. -/
def tok (x : (⟨3, ![2, 128, 16384]⟩ : Shape).Idx → EReal) (n : Fin 256) (c : Fin 16384) : EReal :=
  x (ix3 (⟨n.val / 128, by omega⟩ : Fin 2) (⟨n.val % 128, by omega⟩ : Fin 128) c)

/-- The rotation blocks: block and row are one row number. -/
def rows (w : (⟨4, ![3, 1024, 16, 16]⟩ : Shape).Idx → EReal) (i : Fin 3) (r : Fin 16384) (k : Fin 16) : EReal :=
  w (ix4 i (⟨r.val / 16, by omega⟩ : Fin 1024) (⟨r.val % 16, by omega⟩ : Fin 16) k)

/-- A row number from batch and position. -/
def nrow (b : Fin 2) (s : Fin 128) : Fin 256 := ⟨128 * b.val + s.val, by omega⟩

theorem tok_nrow (x : (⟨3, ![2, 128, 16384]⟩ : Shape).Idx → EReal) (b : Fin 2) (s : Fin 128) (c : Fin 16384) :
    tok x (nrow b s) c = x (ix3 b s c) := by
  unfold tok nrow
  congr 1
  funext a
  match a with
  | ⟨0, _⟩ => apply Fin.ext; show (128 * b.val + s.val) / 128 = b.val; omega
  | ⟨1, _⟩ => apply Fin.ext; show (128 * b.val + s.val) % 128 = s.val; omega
  | ⟨2, _⟩ => rfl

theorem rows_at16 (w : (⟨4, ![3, 1024, 16, 16]⟩ : Shape).Idx → EReal) (i : Fin 3) (b : Fin 1024) (j k : Fin 16) :
    rows w i (at16 b j) k = w (ix4 i b j k) := by
  unfold rows at16
  congr 1
  funext a
  match a with
  | ⟨0, _⟩ => rfl
  | ⟨1, _⟩ => apply Fin.ext; show (16 * b.val + j.val) / 16 = b.val; omega
  | ⟨2, _⟩ => apply Fin.ext; show (16 * b.val + j.val) % 16 = j.val; omega
  | ⟨3, _⟩ => rfl

end Cert.Rot

end
-- ==== Proof.RotDefs.lean ====
/- What the rotation's body stores for one 256-lane tile, as one function of the tile and the 48 blocks it loads:
   three steps, each a product with a dense block-diagonal matrix of sixteen gathered blocks. -/
module

public import proofs.«01_k».proof.Proof.Gen.KernelIdeal.Frame

@[expose] public section

noncomputable section

namespace Cert.KernelIdeal.Hand

open Idealize.ShloMosaic Cert.KernelIdeal Cert.KernelIdeal.Gen

variable {F : FTy → Type} [FloatOps F]

/-- The lanes of one gathered block: lane `p` of row `j` takes column `km p` of the 16×16 block, kept where the lane
    belongs to block `g` of its half and zero elsewhere. -/
def piece (km bk : IVec S16x128 32) (g : BitVec 32) (v : Vec F S1x16x16 .bf16) : FVec F S16x128 .bf16 :=
  select (cmpi .eq bk (broadcast S16x128 g))
    (truncf .bf16
      (dynamicGather 1
        (extf .f32
          (concatenate S16x128 1
            [⟨S16x16, (shapeCast S16x16 v shapeCasts_S1x16x16_S16x16 : FVec F S16x16 .bf16)⟩,
             ⟨S16x112, (broadcast S16x112 (Scalar.ofBits .bf16 0x0000#16 : F .bf16) : FVec F S16x112 .bf16)⟩]
            concatenates_S16x16_S16x112_S16x128_d1 : FVec F S16x128 .bf16) bitsLt_bf16_f32 : FVec F S16x128 .f32)
        (shapeCast S16x128
          (shapeCast S16x128x1
            (select (cmpi .slt km (broadcast S16x128 0#32)) (addi km (broadcast S16x128 128#32)) km)
            shapeCasts_S16x128_S16x128x1) shapeCasts_S16x128x1_S16x128))
      bitsLt_bf16_f32)
    (broadcast S16x128 (Scalar.ofBits .bf16 0x0000#16 : F .bf16))

/-- One 128×128 half of a step's matrix: its eight gathered blocks one under the other. -/
def half (km bk : IVec S16x128 32) (v : Fin 8 → Vec F S1x16x16 .bf16) : FVec F S128x128 .bf16 :=
  concatenate S128x128 0
    [⟨S16x128, piece km bk 0#32 (v 0)⟩, ⟨S16x128, piece km bk 1#32 (v 1)⟩, ⟨S16x128, piece km bk 2#32 (v 2)⟩,
     ⟨S16x128, piece km bk 3#32 (v 3)⟩, ⟨S16x128, piece km bk 4#32 (v 4)⟩, ⟨S16x128, piece km bk 5#32 (v 5)⟩,
     ⟨S16x128, piece km bk 6#32 (v 6)⟩, ⟨S16x128, piece km bk 7#32 (v 7)⟩]
    concatenates_S16x128_S16x128_S16x128_S16x128_S16x128_S16x128_S16x128_S16x128_S128x128_d0

/-- One step's 256×256 matrix: the two halves on the diagonal, zeros off it. -/
def dense (d0 d1 : FVec F S128x128 .bf16) : FVec F S256x256 .bf16 :=
  concatenate S256x256 0
    [⟨S128x256, (concatenate S128x256 1 [⟨S128x128, d0⟩, ⟨S128x128, k0_pay2 (F := F)⟩]
        concatenates_S128x128_S128x128_S128x256_d1 : FVec F S128x256 .bf16)⟩,
     ⟨S128x256, (concatenate S128x256 1 [⟨S128x128, k0_pay2 (F := F)⟩, ⟨S128x128, d1⟩]
        concatenates_S128x128_S128x128_S128x256_d1 : FVec F S128x256 .bf16)⟩]
    concatenates_S128x256_S128x256_S256x256_d0

/-- One step on a tile: the product with the step's matrix. -/
def step (km bk : IVec S16x128 32) (z : FVec F S256x256 .bf16) (v : Fin 2 → Fin 8 → Vec F S1x16x16 .bf16) :
    FVec F S256x256 .bf16 :=
  truncf .bf16
    (matmul dot_S256x256_S256x256_S256x256_1_0_0_1_n_n none z (dense (half km bk (v 0)) (half km bk (v 1)))
      (constant S256x256 .f32 0x00000000#32)) bitsLt_bf16_f32

/-- The three steps on a tile. -/
def tile (z : Vec F S256x256 .bf16) (v : Fin 3 → Fin 2 → Fin 8 → Vec F S1x16x16 .bf16) : FVec F S256x256 .bf16 :=
  step k0_pay63 k0_pay64 (step k0_pay33 k0_pay34
    (step k0_pay4 k0_pay5 (shapeCast S256x256 z shapeCasts_S256x256_S256x256) (v 0)) (v 1)) (v 2)

end Cert.KernelIdeal.Hand

end
-- ==== Proof.RotPay.lean ====
/- The four tiles the rotation's body stores are the four tile functions of what it loads. -/
module

public import proofs.«01_k».proof.Proof.RotDefs

@[expose] public section

noncomputable section

namespace Cert.KernelIdeal.Hand

open Idealize.ShloMosaic Cert.KernelIdeal Cert.KernelIdeal.Gen

variable {F : FTy → Type} [FloatOps F]

/-- The rectangle of one 16×16 block: step `i`, tile `t`, half `h`, block `g` of the half. -/
def rB (t : Fin 4) (i : Fin 3) (h : Fin 2) (g : Fin 8) : Rect S3x1024x16 :=
  Rect.unit (s := S3x1024x16) ![i.val, 256 * t.val + 128 * h.val + 16 * g.val, 0] S1x16x16.size
    (by intro a; fin_cases a <;> simp [S3x1024x16, S1x16x16] <;> omega)

/-- The blocks a tile loads. -/
def blocks (x1 : Vec F S3x1024x16 .bf16) (t : Fin 4) (i : Fin 3) (h : Fin 2) (g : Fin 8) : Vec F S1x16x16 .bf16 :=
  View.ld x1 (rB t i h g)

set_option maxRecDepth 65536 in
/-- What the body leaves in its output block: the four tiles. -/
theorem out0_2_eq (x0 : Vec F S256x1024 .bf16) (x1 : Vec F S3x1024x16 .bf16) :
    out0_2 x0 x1 = View.canon [⟨r0_147, tile (View.ld x0 r0_147) (blocks x1 3)⟩,
      ⟨r0_98, tile (View.ld x0 r0_98) (blocks x1 2)⟩, ⟨r0_49, tile (View.ld x0 r0_49) (blocks x1 1)⟩,
      ⟨r0_0, tile (View.ld x0 r0_0) (blocks x1 0)⟩] := by
  unfold_out out0_2
  rfl

end Cert.KernelIdeal.Hand

end
-- ==== Proof.RotVal.lean ====
/- The tile function at the extended reals: each step is a sum of sixteen products, since a column of the step's dense
   matrix has nonzero entries only in the sixteen rows of the block its lane belongs to. -/
module

public import proofs.«01_k».proof.Proof.RotDefs
public import proofs.«01_k».proof.Proof.RotSpec
public import Idealize.ShloMosaic.Lib.ValueIdx
public import Idealize.ShloMosaic.Lib.ValueLayout
public import Idealize.ShloMosaic.Lib.MatmulPlain
public import Idealize.ShloMosaic.Lib.IdealHost

@[expose] public section

noncomputable section

namespace Cert.KernelIdeal.Hand

open Idealize.ShloMosaic Cert.KernelIdeal Cert.KernelIdeal.Gen ValueIdx Cert.Rot
open scoped BigOperators

/-- The two lane maps `km`, `bk` are the words of `kk` and `bb`, the same on every row. -/
structure Maps (km bk : IVec S16x128 32) (kk : Fin 128 → Fin 16) (bb : Fin 128 → Fin 8) : Prop where
  km_eq : ∀ (j : Fin 16) (p : Fin 128), km (ix2 j p) = BitVec.ofNat 32 (kk p).val
  bk_eq : ∀ (j : Fin 16) (p : Fin 128), bk (ix2 j p) = BitVec.ofNat 32 (bb p).val

theorem wordK : ∀ k : Fin 16, (Scalar.select (IntOp.cmpi .slt (BitVec.ofNat 32 k.val) 0#32)
    (IntOp.addi (BitVec.ofNat 32 k.val) 128#32) (BitVec.ofNat 32 k.val)).toNat % 128 = k.val := by decide +kernel

theorem wordB : ∀ b g : Fin 8, IntOp.cmpi .eq (BitVec.ofNat 32 b.val) (BitVec.ofNat 32 g.val)
    = if b = g then 1#1 else 0#1 := by decide +kernel

/-- Widening, gathering along the lanes and narrowing back reads the operand at the named lane. -/
theorem gather_apply (x : FVec Ideal S16x128 .bf16) (idx : IVec S16x128 32) (i : S16x128.Idx) :
    truncf .bf16 (dynamicGather 1 (extf .f32 x bitsLt_bf16_f32 : FVec Ideal S16x128 .f32) idx) bitsLt_bf16_f32 i
      = x (fun b => if b = 1 then ⟨(idx i).toNat % S16x128.size b, Nat.mod_lt _ (Fin.pos (i b))⟩ else i b) := rfl

/-- A gathered block at a row and a lane. -/
theorem piece_apply {km bk kk bb} (hm : Maps km bk kk bb) (g : Fin 8) (v : Vec Ideal S1x16x16 .bf16)
    (j : Fin 16) (p : Fin 128) :
    piece km bk (BitVec.ofNat 32 g.val) v (ix2 j p) = if bb p = g then v (ix3 0 j (kk p)) else 0 := by
  unfold piece
  rw [shapeCast_shapeCast]
  show Scalar.select (IntOp.cmpi .eq (bk (ix2 j p)) (BitVec.ofNat 32 g.val)) _ _ = _
  rw [hm.bk_eq, wordB]
  have hz : (Scalar.ofBits .bf16 0x0000#16 : Ideal .bf16) = 0 := Ideal.ofBits_zero_bf16
  by_cases h : bb p = g
  · rw [if_pos h, if_pos h, select_one]
    rw [gather_apply]
    refine (concatenate_pair_apply_left (t := S16x128) (s₁ := S16x16) (s₂ := S16x112) 1 _ _ _ _ rfl
      (ix2 j (kk p)) ?_).trans ?_
    · intro b
      have hk := wordK (kk p)
      match b with
      | ⟨0, _⟩ => rfl
      | ⟨1, _⟩ =>
        show (kk p).val = (Scalar.select (IntOp.cmpi .slt (km (ix2 j p)) 0#32)
          (IntOp.addi (km (ix2 j p)) 128#32) (km (ix2 j p))).toNat % 128
        rw [hm.km_eq, hk]
    · exact shapeCast_1ab_ab_apply v _ j (kk p)
  · rw [if_neg h, if_neg h, select_zero]
    exact hz

/-- A half of a step's matrix at a row and a lane. -/
theorem half_apply {km bk kk bb} (hm : Maps km bk kk bb) (v : Fin 8 → Vec Ideal S1x16x16 .bf16)
    (g : Fin 8) (j : Fin 16) (p : Fin 128) :
    half km bk v (ix2 (⟨16 * g.val + j.val, by omega⟩ : Fin 128) p) = if bb p = g then v g (ix3 0 j (kk p)) else 0 := by
  have e : half km bk v = concatenate S128x128 0
      (List.ofFn fun n : Fin 8 => (⟨S16x128, piece km bk (BitVec.ofNat 32 n.val) (v n)⟩ : (s : Shape) × (s.Idx → Ideal .bf16)))
      concatenates_S16x128_S16x128_S16x128_S16x128_S16x128_S16x128_S16x128_S16x128_S128x128_d0 := rfl
  rw [e]
  refine (concatenate_ofFn_apply (t := S128x128) (s₁ := S16x128) 0 (fun n : Fin 8 => piece km bk (BitVec.ofNat 32 n.val) (v n)) _ rfl 16 rfl _ g
    (by show (16 * g.val + j.val) / 16 = g.val; omega) (ix2 j p)
    (by show j.val = (16 * g.val + j.val) % 16; omega) ?_).trans (piece_apply hm g (v g) j p)
  intro b hb
  match b with
  | ⟨0, _⟩ => exact absurd rfl hb
  | ⟨1, _⟩ => rfl

/-- A step's matrix at a row and a column, each written as half, block and lane. -/
theorem dense_apply (d : Fin 2 → FVec Ideal S128x128 .bf16) (h h' : Fin 2) (r p : Fin 128) :
    dense (d 0) (d 1) (ix2 (⟨128 * h.val + r.val, by omega⟩ : Fin 256) (⟨128 * h'.val + p.val, by omega⟩ : Fin 256))
      = if h' = h then d h (ix2 r p) else 0 := by
  have hz : ∀ i, (k0_pay2 (F := Ideal)) i = 0 := fun i => Ideal.ofBits_zero_bf16
  unfold dense
  match h with
  | ⟨0, _⟩ =>
    refine (concatenate_pair_apply_left (t := S256x256) (s₁ := S128x256) (s₂ := S128x256) 0 _ _ _ _ rfl
      (ix2 r (⟨128 * h'.val + p.val, by omega⟩ : Fin 256)) (by intro b; match b with
        | ⟨0, _⟩ => show r.val = 128 * 0 + r.val; omega
        | ⟨1, _⟩ => rfl)).trans ?_
    match h' with
    | ⟨0, _⟩ =>
      rw [if_pos rfl]
      exact concatenate_pair_apply_left (t := S128x256) (s₁ := S128x128) (s₂ := S128x128) 1 _ _ _ _ rfl (ix2 r p) (by intro b; match b with
        | ⟨0, _⟩ => rfl
        | ⟨1, _⟩ => show p.val = 128 * 0 + p.val; omega)
    | ⟨1, _⟩ =>
      rw [if_neg (by simp)]
      exact (concatenate_pair_apply_right (t := S128x256) (s₁ := S128x128) (s₂ := S128x128) 1 _ _ _ _ rfl rfl (ix2 r p) (by intro b hb; match b with
        | ⟨0, _⟩ => rfl
        | ⟨1, _⟩ => exact absurd rfl hb) (by show p.val + 128 = 128 * 1 + p.val; omega)).trans (hz _)
  | ⟨1, _⟩ =>
    refine (concatenate_pair_apply_right (t := S256x256) (s₁ := S128x256) (s₂ := S128x256) 0 _ _ _ _ rfl rfl
      (ix2 r (⟨128 * h'.val + p.val, by omega⟩ : Fin 256)) (by intro b hb; match b with
        | ⟨0, _⟩ => exact absurd rfl hb
        | ⟨1, _⟩ => rfl)
      (by show r.val + 128 = 128 * 1 + r.val; omega)).trans ?_
    match h' with
    | ⟨0, _⟩ =>
      rw [if_neg (by simp)]
      exact (concatenate_pair_apply_left (t := S128x256) (s₁ := S128x128) (s₂ := S128x128) 1 _ _ _ _ rfl (ix2 r p) (by intro b; match b with
        | ⟨0, _⟩ => rfl
        | ⟨1, _⟩ => show p.val = 128 * 0 + p.val; omega)).trans (hz _)
    | ⟨1, _⟩ =>
      rw [if_pos rfl]
      exact concatenate_pair_apply_right (t := S128x256) (s₁ := S128x128) (s₂ := S128x128) 1 _ _ _ _ rfl rfl (ix2 r p) (by intro b hb; match b with
        | ⟨0, _⟩ => rfl
        | ⟨1, _⟩ => exact absurd rfl hb) (by show p.val + 128 = 128 * 1 + p.val; omega)

/-- A row of the tile: half, block of the half, lane of the block. -/
def row (h : Fin 2) (g : Fin 8) (j : Fin 16) : Fin 256 := ⟨128 * h.val + (16 * g.val + j.val), by omega⟩

/-- The rows of a tile by half, block and lane. -/
def rowEquiv : (Fin 2 × Fin 8) × Fin 16 ≃ Fin 256 where
  toFun x := row x.1.1 x.1.2 x.2
  invFun r := ((⟨r.val / 128, by omega⟩, ⟨r.val / 16 % 8, by omega⟩), ⟨r.val % 16, by omega⟩)
  left_inv := by
    rintro ⟨⟨h, g⟩, j⟩
    refine Prod.ext (Prod.ext (Fin.ext ?_) (Fin.ext ?_)) (Fin.ext ?_) <;> simp only [row] <;> omega
  right_inv r := by apply Fin.ext; simp only [row]; omega

/-- One step at a row of the tile and a column given by half and lane: sixteen products. -/
theorem step_apply {km bk kk bb} (hm : Maps km bk kk bb) (z : FVec Ideal S256x256 .bf16)
    (v : Fin 2 → Fin 8 → Vec Ideal S1x16x16 .bf16) (n : Fin 256) (h : Fin 2) (p : Fin 128) :
    step km bk z v (ix2 n (⟨128 * h.val + p.val, by omega⟩ : Fin 256))
      = ∑ j : Fin 16, z (ix2 n (row h (bb p) j)) * v h (bb p) (ix3 0 j (kk p)) := by
  have e : step km bk z v (ix2 n (⟨128 * h.val + p.val, by omega⟩ : Fin 256))
      = FloatOps.matmul (F := Ideal) (DotDims.plain 256 256 256) none z (dense (half km bk (v 0)) (half km bk (v 1)))
        (constant S256x256 .f32 0x00000000#32) (ix2 n (⟨128 * h.val + p.val, by omega⟩ : Fin 256)) := rfl
  rw [e, Ideal.matmul_plain_apply]
  have hz : (constant S256x256 .f32 0x00000000#32 : FVec Ideal S256x256 .f32)
      (ix2 n (⟨128 * h.val + p.val, by omega⟩ : Fin 256)) = 0 := Ideal.ofBits_zero_f32
  rw [hz, zero_add, ← Equiv.sum_comp rowEquiv, Fintype.sum_prod_type]
  have hd : ∀ (hg : Fin 2 × Fin 8) (j : Fin 16),
      dense (half km bk (v 0)) (half km bk (v 1)) (ix2 (rowEquiv (hg, j)) (⟨128 * h.val + p.val, by omega⟩ : Fin 256))
        = if hg = (h, bb p) then v h (bb p) (ix3 0 j (kk p)) else 0 := by
    rintro ⟨h', g⟩ j
    have := dense_apply (fun i => half km bk (v i)) h' h ⟨16 * g.val + j.val, by omega⟩ p
    refine this.trans ?_
    by_cases hh : h = h'
    · subst hh
      rw [if_pos rfl, half_apply hm]
      by_cases hg : bb p = g
      · subst hg; rw [if_pos rfl, if_pos rfl]
      · rw [if_neg hg, if_neg (fun e => hg (Prod.ext_iff.mp e).2.symm)]
    · rw [if_neg hh, if_neg (fun e => hh (Prod.ext_iff.mp e).1.symm)]
  rw [Finset.sum_eq_single (h, bb p)]
  · refine Finset.sum_congr rfl fun j _ => ?_
    rw [hd, if_pos rfl]
    rfl
  · intro hg _ hne
    refine Finset.sum_eq_zero fun j _ => ?_
    rw [hd, if_neg hne, mul_zero]
  · intro hn; exact absurd (Finset.mem_univ _) hn

/-! ### The three steps' lane maps -/

/-- The lane map of each step, as an index word's word. -/
theorem wordk0 : ∀ p : Fin 128, IntOp.addi (IntOp.muli 2#32 (IntOp.andi (BitVec.ofNat 32 p.val) 7#32))
    (IntOp.andi (IntOp.shrsi .vector (BitVec.ofNat 32 p.val) 4#32) 1#32) = BitVec.ofNat 32 (kk0 p).val := by decide +kernel
theorem wordb0 : ∀ p : Fin 128, IntOp.addi (IntOp.muli 2#32 (IntOp.shrsi .vector (BitVec.ofNat 32 p.val) 5#32))
    (IntOp.andi (IntOp.shrsi .vector (BitVec.ofNat 32 p.val) 3#32) 1#32) = BitVec.ofNat 32 (bb0 p).val := by decide +kernel
theorem wordc1 : ∀ p : Fin 128, IntOp.addi (IntOp.muli 4#32 (IntOp.andi (BitVec.ofNat 32 p.val) 15#32))
    (IntOp.andi (IntOp.shrsi .vector (BitVec.ofNat 32 p.val) 4#32) 3#32) = BitVec.ofNat 32 (ch1 p).val := by decide +kernel
theorem wordk1 : ∀ p : Fin 128, IntOp.shrsi .vector (IntOp.andi (BitVec.ofNat 32 (ch1 p).val) 31#32) 1#32
    = BitVec.ofNat 32 (kk1 p).val := by decide +kernel
theorem wordb1 : ∀ p : Fin 128, IntOp.addi (IntOp.addi (IntOp.muli 4#32 (IntOp.shrsi .vector (BitVec.ofNat 32 p.val) 6#32))
    (IntOp.muli 2#32 (IntOp.shrsi .vector (BitVec.ofNat 32 (ch1 p).val) 5#32)))
    (IntOp.andi (BitVec.ofNat 32 (ch1 p).val) 1#32) = BitVec.ofNat 32 (bb1 p).val := by decide +kernel
theorem wordk2 : ∀ p : Fin 128, IntOp.shrsi .vector (IntOp.andi (BitVec.ofNat 32 p.val) 63#32) 2#32
    = BitVec.ofNat 32 (kk2 p).val := by decide +kernel
theorem wordb2 : ∀ p : Fin 128, IntOp.addi (IntOp.muli 4#32 (IntOp.shrsi .vector (BitVec.ofNat 32 p.val) 6#32))
    (IntOp.andi (BitVec.ofNat 32 p.val) 3#32) = BitVec.ofNat 32 (bb2 p).val := by decide +kernel

/-- The lane number at a row and a lane. -/
theorem lane_apply (j : Fin 16) (p : Fin 128) :
    iota .tc S16x128 32 [1] iota_S16x128_d1_w32 (ix2 j p) = BitVec.ofNat 32 p.val := iota_single_apply _ _ _ _ _ _

theorem maps0 : Maps k0_pay4 k0_pay5 kk0 bb0 where
  km_eq j p := by
    rw [← wordk0 p, ← lane_apply j p]; rfl
  bk_eq j p := by
    rw [← wordb0 p, ← lane_apply j p]; rfl

theorem ch1_apply (j : Fin 16) (p : Fin 128) : k0_pay32 (ix2 j p) = BitVec.ofNat 32 (ch1 p).val := by
  rw [← wordc1 p, ← lane_apply j p]; rfl

theorem maps1 : Maps k0_pay33 k0_pay34 kk1 bb1 where
  km_eq j p := by
    rw [← wordk1 p, ← ch1_apply j p]; rfl
  bk_eq j p := by
    rw [← wordb1 p, ← ch1_apply j p, ← lane_apply j p]; rfl

theorem maps2 : Maps k0_pay63 k0_pay64 kk2 bb2 where
  km_eq j p := by
    rw [← wordk2 p, ← lane_apply j p]; rfl
  bk_eq j p := by
    rw [← wordb2 p, ← lane_apply j p]; rfl

/-- The three steps on a tile are three steps, the tile's cast being none. -/
theorem tile_eq (z : Vec Ideal S256x256 .bf16) (v : Fin 3 → Fin 2 → Fin 8 → Vec Ideal S1x16x16 .bf16) :
    tile z v = step k0_pay63 k0_pay64 (step k0_pay33 k0_pay34 (step k0_pay4 k0_pay5 z (v 0)) (v 1)) (v 2) := by
  unfold tile
  rw [shapeCast_self]

end Cert.KernelIdeal.Hand

end
-- ==== Proof.RotBlock.lean ====
/- What the rotation's body leaves in its output block: the block of the rotation in the permuted order. -/
module

public import proofs.«01_k».proof.Proof.RotPay
public import proofs.«01_k».proof.Proof.RotVal

@[expose] public section

set_option maxRecDepth 16384

noncomputable section

namespace Cert.KernelIdeal.Hand

open Idealize.ShloMosaic Cert.KernelIdeal Cert.KernelIdeal.Gen ValueIdx Cert.Rot
open scoped BigOperators

/-- Channel `q` of tile `T`. -/
def chT (T : Fin 64) (q : Fin 256) : Fin 16384 := ⟨256 * T.val + q.val, by omega⟩

/-- A step on a tile of an array, with that tile's blocks, is the tile of the step on the array. -/
theorem step_tile {km bk kk bb} (hm : Maps km bk kk bb) (T : Fin 64) (z : FVec Ideal S256x256 .bf16)
    (v : Fin 2 → Fin 8 → Vec Ideal S1x16x16 .bf16) (Z : Fin 256 → Fin 16384 → EReal) (W : Fin 16384 → Fin 16 → EReal)
    (hz : ∀ n q, z (ix2 n q) = Z n (chT T q))
    (hv : ∀ h g j k, v h g (ix3 0 j k) = W (chT T (row h g j)) k) (n q : Fin 256) :
    step km bk z v (ix2 n q) = gstep bb kk W Z n (chT T q) := by
  have e := step_apply hm z v n ⟨q.val / 128, by omega⟩ ⟨q.val % 128, by omega⟩
  have eq : (⟨128 * (q.val / 128) + q.val % 128, by omega⟩ : Fin 256) = q := by apply Fin.ext; show 128 * (q.val / 128) + q.val % 128 = q.val; omega
  rw [eq] at e
  rw [e]
  have el : lane (chT T q) = ⟨q.val % 128, by omega⟩ := by
    apply Fin.ext; show (256 * T.val + q.val) % 128 = q.val % 128; omega
  unfold gstep
  refine Finset.sum_congr rfl fun j _ => ?_
  have ea : at16 (blkK bb (chT T q)) j = chT T (row ⟨q.val / 128, by omega⟩ (bb ⟨q.val % 128, by omega⟩) j) := by
    apply Fin.ext
    simp only [at16, blkK, el, row]
    show 16 * (8 * ((256 * T.val + q.val) / 128) + _) + j.val = 256 * T.val + (128 * (q.val / 128) + (16 * _ + j.val))
    omega
  rw [ea, el, hz, hv]

/-- The tile function on a tile of an array is the tile of the rotation of the array. -/
theorem tile_rot (T : Fin 64) (z : FVec Ideal S256x256 .bf16)
    (v : Fin 3 → Fin 2 → Fin 8 → Vec Ideal S1x16x16 .bf16) (Z : Fin 256 → Fin 16384 → EReal)
    (W : Fin 3 → Fin 16384 → Fin 16 → EReal)
    (hz : ∀ n q, z (ix2 n q) = Z n (chT T q))
    (hv : ∀ i h g j k, v i h g (ix3 0 j k) = W i (chT T (row h g j)) k) (n q : Fin 256) :
    tile z v (ix2 n q) = grot W Z n (chT T q) := by
  rw [tile_eq]
  exact step_tile maps2 T _ _ _ _ (step_tile maps1 T _ _ _ _ (step_tile maps0 T _ _ _ _ hz (hv 0)) (hv 1)) (hv 2) n q

/-- Channel `q` of block `b`, rows likewise. -/
def chB (b : Fin 16) (q : Fin 1024) : Fin 16384 := ⟨1024 * b.val + q.val, by omega⟩

/-- The body's output block, from the array's block of tokens and of rotation blocks. -/
theorem out0_apply (b : Fin 16) (x0 : Vec Ideal S256x1024 .bf16) (x1 : Vec Ideal S3x1024x16 .bf16)
    (Z : Fin 256 → Fin 16384 → EReal) (W : Fin 3 → Fin 16384 → Fin 16 → EReal)
    (h0 : ∀ n q, x0 (ix2 n q) = Z n (chB b q)) (h1 : ∀ i r k, x1 (ix3 i r k) = W i (chB b r) k)
    (n : Fin 256) (q : Fin 1024) : out0_2 x0 x1 (ix2 n q) = grot W Z n (chB b q) := by
  rw [out0_2_eq]
  have pay : ∀ (t : Fin 4) (off : Nat) (inb : ∀ a, (![0, off] : Fin 2 → Nat) a + S256x256.size a ≤ S256x1024.size a)
      (_ : off = 256 * t.val) (y : S256x256.Idx),
      tile (View.ld x0 (Rect.unit (s := S256x1024) ![0, off] S256x256.size inb)) (blocks x1 t) y
        = grot W Z ((Rect.unit (s := S256x1024) ![0, off] S256x256.size inb).emb y 0)
            (chB b ((Rect.unit (s := S256x1024) ![0, off] S256x256.size inb).emb y 1)) := by
    intro t off inb ht y
    subst ht
    obtain ⟨y0, y1, rfl⟩ : ∃ y0 y1, y = ix2 y0 y1 := ⟨_, _, eq_ix2 y⟩
    refine (tile_rot ⟨4 * b.val + t.val, by omega⟩ _ _ Z W ?_ ?_ y0 y1).trans ?_
    · intro n q
      have e : (Rect.unit (s := S256x1024) ![0, 256 * t.val] S256x256.size inb).idx (ix2 n q)
          = ix2 n (⟨256 * t.val + q.val, by omega⟩ : Fin 1024) := by
        funext a
        match a with
        | ⟨0, _⟩ => apply Fin.ext; show 0 + 1 * n.val = n.val; omega
        | ⟨1, _⟩ => apply Fin.ext; show 256 * t.val + 1 * q.val = 256 * t.val + q.val; omega
      show x0 ((Rect.unit (s := S256x1024) ![0, 256 * t.val] S256x256.size inb).idx (ix2 n q)) = _
      rw [e, h0]
      congr 1
      apply Fin.ext
      show 1024 * b.val + (256 * t.val + q.val) = 256 * (4 * b.val + t.val) + q.val
      omega
    · intro i h g j k
      have e : (rB t i h g).idx (ix3 0 j k) = ix3 i (⟨256 * t.val + 128 * h.val + 16 * g.val + j.val, by omega⟩ : Fin 1024) k := by
        funext a
        match a with
        | ⟨0, _⟩ => apply Fin.ext; show i.val + 1 * 0 = i.val; omega
        | ⟨1, _⟩ => apply Fin.ext; show 256 * t.val + 128 * h.val + 16 * g.val + 1 * j.val = 256 * t.val + 128 * h.val + 16 * g.val + j.val; omega
        | ⟨2, _⟩ => apply Fin.ext; show 0 + 1 * k.val = k.val; omega
      show x1 ((rB t i h g).idx (ix3 0 j k)) = _
      rw [e, h1]
      congr 1
      apply Fin.ext
      show 1024 * b.val + (256 * t.val + 128 * h.val + 16 * g.val + j.val) = 256 * (4 * b.val + t.val) + (128 * h.val + (16 * g.val + j.val))
      omega
    · have e0 : (Rect.unit (s := S256x1024) ![0, 256 * t.val] S256x256.size inb).emb (ix2 y0 y1) 0 = y0 := by
        apply Fin.ext; show 0 + 1 * y0.val = y0.val; omega
      have e1 : chB b ((Rect.unit (s := S256x1024) ![0, 256 * t.val] S256x256.size inb).emb (ix2 y0 y1) 1)
          = chT ⟨4 * b.val + t.val, by omega⟩ y1 := by
        apply Fin.ext
        show 1024 * b.val + (256 * t.val + 1 * y1.val) = 256 * (4 * b.val + t.val) + y1.val
        omega
      rw [e0, e1]
  refine (View.canon_apply_of_pieces (Val := Elt Ideal) (e := .bf16) (fun y : S256x1024.Idx => grot W Z (y 0) (chB b (y 1))) _ ?_
    (ix2 n q) (cover0_2 _ _ _ _ _)).trans rfl
  intro p hp y
  simp only [List.mem_cons, List.mem_nil_iff, or_false] at hp
  rcases hp with rfl | rfl | rfl | rfl
  · exact pay 3 768 _ rfl y
  · exact pay 2 512 _ rfl y
  · exact pay 1 256 _ rfl y
  · exact pay 0 0 _ rfl y

end Cert.KernelIdeal.Hand

end
-- ==== Proof.RotArr.lean ====
/- The rotated tokens after the first launch: the rotation, in the permuted order, of the arrays it finds. -/
module

public import proofs.«01_k».proof.Proof.RotBlock
public import Idealize.ShloMosaic.Lib.Pipeline.ValueKit

@[expose] public section

set_option maxRecDepth 16384

noncomputable section

namespace Cert.KernelIdeal.Hand

open Idealize.ShloMosaic Idealize.ShloMosaic.TcCoe Idealize.SL.Sem Cert.KernelIdeal Cert.KernelIdeal.Gen Cert.Rot
open Idealize.ShloMosaic.Pipeline (Dat)

variable (V : Dev nD → (b : Ref sig .tc) → b.ty.Contents (Elt Ideal))

/-- Where the windows' blocks lie at each point. -/
theorem idx0 : ∀ t : Fin grid0.N, win0_0.index t = ![0, t.val] ∧ win0_1.index t = ![0, t.val, 0] ∧ win0_2.index t = ![0, t.val] := by
  decide +kernel

/-- The rotated tokens' array after the launch. -/
theorem rot_arr (c : Dev nD) (Z : Fin 256 → Fin 16384 → EReal) (W : Fin 3 → Fin 16384 → Fin 16 → EReal)
    (hZ : ∀ n q, (V c (Pipeline.arrRef spec0 0) : S256x16384.Idx → EReal) (ValueIdx.ix2 n q) = Z n q)
    (hW : ∀ i r k, (V c (Pipeline.arrRef spec0 1) : S3x16384x16.Idx → EReal) (ValueIdx.ix3 i r k) = W i r k) :
    (dat0 V c).arrAt 2 cfg0.N = fun i : S256x16384.Idx => grot W Z (i 0) (i 1) := by
  refine (dat0 V c).arrAt_eq_of_covers 2 _ (by decide +kernel) fun t hf y => ?_
  blk_simp
  rw [after0_2]
  obtain ⟨e0, e1, e2⟩ := idx0 t
  have ht : t.val < 16 := t.isLt
  obtain ⟨n, q, rfl⟩ : ∃ (n : Fin 256) (q : Fin 1024), y = ValueIdx.ix2 n q := ⟨_, _, ValueIdx.eq_ix2 y⟩
  refine (out0_apply ⟨t.val, ht⟩ _ _ Z W ?_ ?_ n q).trans ?_
  · intro n q
    rw [← hZ]
    show (V c (Pipeline.arrRef spec0 0) : S256x16384.Idx → EReal) ((win0_0.blk t).view.emb (ValueIdx.ix2 n q)) = _
    congr 1
    funext a
    match a with
    | ⟨0, _⟩ => apply Fin.ext; blk_simp [e0]
    | ⟨1, _⟩ => apply Fin.ext; blk_simp [e0]; show t.val * 1024 + q.val = 1024 * t.val + q.val; omega
  · intro i r k
    rw [← hW]
    show (V c (Pipeline.arrRef spec0 1) : S3x16384x16.Idx → EReal) ((win0_1.blk t).view.emb (ValueIdx.ix3 i r k)) = _
    congr 1
    funext a
    match a with
    | ⟨0, _⟩ => apply Fin.ext; blk_simp [e1]
    | ⟨1, _⟩ => apply Fin.ext; blk_simp [e1]; show t.val * 1024 + r.val = 1024 * t.val + r.val; omega
    | ⟨2, _⟩ => apply Fin.ext; blk_simp [e1]
  · have f0 : (win0_2.blk t).view.emb (ValueIdx.ix2 n q) 0 = n := by
      apply Fin.ext; blk_simp [e2]; rfl
    have f1 : (win0_2.blk t).view.emb (ValueIdx.ix2 n q) 1 = chB ⟨t.val, ht⟩ q := by
      apply Fin.ext; blk_simp [e2]; show t.val * 1024 + q.val = 1024 * t.val + q.val; omega
    rw [f0, f1]

end Cert.KernelIdeal.Hand

end
-- ==== Proof.MmTrip.lean ====
/- The quantized product's loop: what one trip stores into the accumulator, and the accumulator after every trip. -/
module

public import proofs.«01_k».proof.Proof.Gen.KernelIdeal.Frame
public import Idealize.ShloMosaic.Lib.Pipeline.Value
public import Idealize.ShloMosaic.Lib.WritesUnit

@[expose] public section

noncomputable section

namespace Cert.KernelIdeal.Hand

open Idealize.ShloMosaic Idealize.ShloMosaic.TcCoe Idealize.ShloMosaic.Tactic Cert.KernelIdeal Cert.KernelIdeal.Gen

variable {F : FTy → Type} [FloatOps F]

/-- Sixteen rows of the unpacked weights, scaled by the row of scales of their group. -/
def strip (w : FVec F S1024x512 .bf16) (s : Fin 8 → Vec F S1x512 .f32) (j : Fin 64) : FVec F S16x512 .bf16 :=
  mulf (extractStridedSlice S16x512 ![16 * j.val, 0] w ⟨rfl, fun a => by fin_cases a <;> simp [S1024x512, S16x512] <;> omega⟩)
    (k1_pay6 (s ⟨j.val / 8, by omega⟩))

/-- The scaled weights of one trip: the 64 strips one under the other. -/
def wts (w : FVec F S1024x512 .bf16) (s : Fin 8 → Vec F S1x512 .f32) : FVec F S1024x512 .bf16 :=
  concatenate S1024x512 0 (List.ofFn fun j : Fin 64 => (⟨S16x512, strip w s j⟩ : (s : Shape) × FVec F s .bf16)) (by show Shape.Concatenates (List.replicate 64 S16x512) S1024x512 0; decide +kernel)

/-- The rectangle of the packed weights trip `k` loads: 512 rows of bytes. -/
def rW (k : Fin k1_t1_loop.trips) : Rect S8192x512 := Rect.unit (s := S8192x512) (k1_off1 k) S512x512.size (k1_off1_inb k)

/-- The rectangle of the `g`-th row of scales trip `k` loads. -/
def rS (k : Fin k1_t1_loop.trips) (g : Fin 8) : Rect S128x512 :=
  Rect.unit (s := S128x512) (k1_off2 k (BitVec.ofNat 32 g.val)) S1x512.size (k1_off2_inb k g)

/-- The rectangle of the rotated activations trip `k` loads: 1024 channels. -/
def rZ (k : Fin k1_t1_loop.trips) : Rect S256x16384 := Rect.unit (s := S256x16384) (k1_off3 k) S256x1024.size (k1_off3_inb k)

/-- The packed weights trip `k` loads. -/
def wBlk (x1 : Vec F S8192x512 .i8) (k : Fin k1_t1_loop.trips) : Vec F S512x512 .i8 := View.ld x1 (rW k)

/-- The rows of scales trip `k` loads. -/
def sRow (s : Vec F S128x512 .f32) (k : Fin k1_t1_loop.trips) (g : Fin 8) : Vec F S1x512 .f32 := View.ld s (rS k g)

/-- The rotated activations trip `k` loads. -/
def zBlk (x0 : Vec F S256x16384 .bf16) (k : Fin k1_t1_loop.trips) : Vec F S256x1024 .bf16 := View.ld x0 (rZ k)

/-- What trip `k` stores into the accumulator holding `a`: `a` plus the product of 1024 channels. -/
def trip (x0 : Vec F S256x16384 .bf16) (x1 : Vec F S8192x512 .i8) (s : Vec F S128x512 .f32) (k : Fin k1_t1_loop.trips)
    (a : Vec F S256x512 .f32) : FVec F S256x512 .f32 :=
  k1_pay3 (wts (k1_pay5 (wBlk x1 k)) (sRow s k)) (zBlk x0 k) a

/-- The accumulator before trip `k`. -/
def acc (x0 : Vec F S256x16384 .bf16) (x1 : Vec F S8192x512 .i8) (s : Vec F S128x512 .f32) : ℕ → Vec F S256x512 .f32
  | 0 => k1_pay2
  | k + 1 => if h : k < k1_t1_loop.trips then trip x0 x1 s ⟨k, h⟩ (acc x0 x1 s k) else acc x0 x1 s k

/-- The whole rectangle of the accumulator. -/
abbrev rA : Rect S256x512 := Rect.unit (s := S256x512) ![0, 0] S256x512.size inb_S256x512_S256x512_0_0

set_option maxRecDepth 65536 in
/-- A trip's one store. -/
theorem tripL_eq (𝒱 : Variants) (c : Dev nD) (bd : Option 𝒱.V) (i : grid1.Coords) (arg1 : Memref sig .tc .vmem S256x16384 .bf16) (harg1 : arg1.IsWhole) (arg2 : Memref sig .tc .vmem S8192x512 .i8) (harg2 : arg2.IsWhole) (arg3 : Memref sig .tc .vmem S128x512 .bf16) (harg3 : arg3.IsWhole)
    (arg4 : Memref sig .tc .vmem S1x512 .f32) (harg4 : arg4.IsWhole) (arg5 : Memref sig .tc .vmem S256x512 .bf16) (harg5 : arg5.IsWhole) (arg6 : Memref sig .tc .vmem S128x512 .f32) (harg6 : arg6.IsWhole) (arg7 : Memref sig .tc .vmem S256x512 .f32) (harg7 : arg7.IsWhole)
    (X1 : BufTy.Contents (Elt F) arg1.view.ty) (X2 : BufTy.Contents (Elt F) arg2.view.ty) (X6 : BufTy.Contents (Elt F) arg6.view.ty) (k : Fin k1_t1_loop.trips) (f : BufTy.Contents (Elt F) arg7.view.ty) :
    tripL_k1_t1 (F := F) 𝒱 c bd i arg1 harg1 arg2 harg2 arg3 harg3 arg4 harg4 arg5 harg5 arg6 harg6 arg7 harg7 X1 X2 X6 k f
      = [⟨rA, trip (arg1.view.read (Elt F) X1) (arg2.view.read (Elt F) X2) (arg6.view.read (Elt F) X6) k (View.ld (arg7.view.read (Elt F) f) rA)⟩] := by
  unfold tripL_k1_t1 trip_k1_t1
  rfl

theorem hz : (![0, 0] : Fin 2 → Nat) = fun _ => 0 := funext fun a => by fin_cases a <;> rfl

/-- The accumulator the loop leaves after `k` trips, from an accumulator of zeros. -/
theorem read_pb (𝒱 : Variants) (c : Dev nD) (bd : Option 𝒱.V) (i : grid1.Coords) (arg1 : Memref sig .tc .vmem S256x16384 .bf16) (harg1 : arg1.IsWhole) (arg2 : Memref sig .tc .vmem S8192x512 .i8) (harg2 : arg2.IsWhole) (arg3 : Memref sig .tc .vmem S128x512 .bf16) (harg3 : arg3.IsWhole)
    (arg4 : Memref sig .tc .vmem S1x512 .f32) (harg4 : arg4.IsWhole) (arg5 : Memref sig .tc .vmem S256x512 .bf16) (harg5 : arg5.IsWhole) (arg6 : Memref sig .tc .vmem S128x512 .f32) (harg6 : arg6.IsWhole) (arg7 : Memref sig .tc .vmem S256x512 .f32) (harg7 : arg7.IsWhole)
    (X1 : BufTy.Contents (Elt F) arg1.view.ty) (X2 : BufTy.Contents (Elt F) arg2.view.ty) (X6 : BufTy.Contents (Elt F) arg6.view.ty) (G : BufTy.Contents (Elt F) arg7.view.ty)
    (hG : arg7.view.read (Elt F) G = k1_pay2) (k : ℕ) (hk : k ≤ k1_t1_loop.trips) :
    arg7.view.read (Elt F) (arg7.view.writes (Elt F) G (pb_k1_t1 (F := F) 𝒱 c bd i arg1 harg1 arg2 harg2 arg3 harg3 arg4 harg4 arg5 harg5 arg6 harg6 arg7 harg7 X1 X2 X6 G k))
      = acc (arg1.view.read (Elt F) X1) (arg2.view.read (Elt F) X2) (arg6.view.read (Elt F) X6) k := by
  induction k with
  | zero => exact hG
  | succ k ih =>
    have hlt : k < k1_t1_loop.trips := hk
    rw [pb_k1_t1_succ (F := F) 𝒱 c bd i arg1 harg1 arg2 harg2 arg3 harg3 arg4 harg4 arg5 harg5 arg6 harg6 arg7 harg7 X1 X2 X6 G ⟨k, hlt⟩, tripL_eq, List.singleton_append]
    rw [acc, dif_pos hlt, ← ih (Nat.le_of_succ_le hk)]
    rw [View.ld_unit_zero (S := S256x512) hz]
    funext y
    exact View.read_writes_cons_unit_of_mem _ _ _ _ _ y y hz (fun a => (Nat.zero_add _).symm)

end Cert.KernelIdeal.Hand

end
-- ==== Proof.MmOut.lean ====
/- What the quantized product's body leaves in its output block: the last accumulator, scaled. -/
module

public import proofs.«01_k».proof.Proof.MmTrip

@[expose] public section

noncomputable section

namespace Cert.KernelIdeal.Hand

open Idealize.ShloMosaic Idealize.ShloMosaic.TcCoe Idealize.ShloMosaic.Tactic Cert.KernelIdeal Cert.KernelIdeal.Gen

variable {F : FTy → Type} [FloatOps F]

/-- The output block: the accumulator after the sixteen trips, each column scaled. -/
theorem out1_eq (c : Dev nD) (i : grid1.Coords) (arg1 : Memref sig .tc .vmem S256x16384 .bf16) (harg1 : arg1.IsWhole) (arg2 : Memref sig .tc .vmem S8192x512 .i8) (harg2 : arg2.IsWhole) (arg3 : Memref sig .tc .vmem S128x512 .bf16) (harg3 : arg3.IsWhole)
    (arg4 : Memref sig .tc .vmem S1x512 .f32) (harg4 : arg4.IsWhole) (arg5 : Memref sig .tc .vmem S256x512 .bf16) (harg5 : arg5.IsWhole) (arg6 : Memref sig .tc .vmem S128x512 .f32) (harg6 : arg6.IsWhole) (arg7 : Memref sig .tc .vmem S256x512 .f32) (harg7 : arg7.IsWhole)
    (x0 : Vec F S256x16384 .bf16) (x1 : Vec F S8192x512 .i8) (x2 : Vec F S128x512 .bf16) (x3 : Vec F S1x512 .f32) :
    out1_A_4 c i arg1 harg1 arg2 harg2 arg3 harg3 arg4 harg4 arg5 harg5 arg6 harg6 arg7 harg7 x0 x1 x2 x3
      = k1_pay4 (acc x0 x1 (k1_pay1 x2) k1_t1_loop.trips) x3 := by
  unfold out1_A_4
  rw [View.read_writes_eq_canon _ _ _ (cover1_A_4 c i arg1 harg1 arg2 harg2 arg3 harg3 arg4 harg4 arg5 harg5 arg6 harg6 arg7 harg7 x0 x1 x2 x3)]
  unfold kernelRun1_A
  dsimp only
  sl_unfold_words
  rw [View.canon_unit_zero (S := S256x512) hz]
  have e1 : ∀ f, arg7.view.read (Elt F) (arg7.view.writes (Elt F) f [⟨rA, (k1_pay2 : FVec F S256x512 .f32)⟩]) = k1_pay2 := fun f =>
    funext fun y => View.read_writes_cons_unit_of_mem _ _ _ _ _ y y hz (fun a => (Nat.zero_add _).symm)
  have e6 : ∀ f (w : FVec F S128x512 .f32), arg6.view.read (Elt F)
      (arg6.view.writes (Elt F) f [⟨Rect.unit (s := S128x512) ![0, 0] S128x512.size inb_S128x512_S128x512_0_0, w⟩]) = w := fun f w =>
    funext fun y => View.read_writes_cons_unit_of_mem _ _ _ _ _ y y hz (fun a => (Nat.zero_add _).symm)
  unfold View.readCov
  rw [View.writes_append, View.readAt_eq_ld, View.ld_unit_zero (S := S256x512) hz, View.readAt_eq_ld, View.readAt_eq_ld]
  rw [View.ld_unit_zero (S := S128x512) hz, View.ld_unit_zero (S := S1x512) hz]
  rw [harg3.read_unread, harg4.read_unread]
  rw [read_pb _ c none i arg1 harg1 arg2 harg2 arg3 harg3 arg4 harg4 arg5 harg5 arg6 harg6 arg7 harg7 _ _ _ _ (e1 _) k1_t1_loop.trips le_rfl]
  rw [harg1.read_unread, harg2.read_unread, e6]

end Cert.KernelIdeal.Hand

end
-- ==== Proof.MmSpec.lean ====
/- The quantized product over plain indices: the sum over all channels in order, and the same sum over the even and the
   odd channels apart. -/
module

public import Idealize.ShloMosaic.PureOps.Ideal
public import Idealize.ShloMosaic.Lib.ValueIdx

@[expose] public section

noncomputable section

namespace Cert.Mm

open Idealize.ShloMosaic
open scoped BigOperators

/-- The low four bits of a byte as a signed word: shifted to the top of the word and back. -/
def lo (b : BitVec 8) : BitVec 32 := IntOp.shrsi .vector (IntOp.shli .vector (b.setWidth 32) 28#32) 28#32

/-- The high four bits of a byte as a signed word. -/
def hi (b : BitVec 8) : BitVec 32 := IntOp.shrsi .vector (IntOp.shli .vector (b.setWidth 32) 24#32) 28#32

/-- The reference's low four bits: masked, and sixteen taken away from eight on. -/
def refLo (b : BitVec 8) : BitVec 32 :=
  Scalar.select (IntOp.cmpi .sge (IntOp.andi (b.setWidth 32) 15#32) 8#32)
    (IntOp.subi (IntOp.andi (b.setWidth 32) 15#32) 16#32) (IntOp.andi (b.setWidth 32) 15#32)

/-- The reference's high four bits. -/
def refHi (b : BitVec 8) : BitVec 32 :=
  Scalar.select (IntOp.cmpi .sge (IntOp.shrsi .host (b.setWidth 32) 4#32) 8#32)
    (IntOp.subi (IntOp.shrsi .host (b.setWidth 32) 4#32) 16#32) (IntOp.shrsi .host (b.setWidth 32) 4#32)

theorem refLo_all : ∀ n : Fin 256, refLo (BitVec.ofNat 8 n.val) = lo (BitVec.ofNat 8 n.val) := by decide +kernel
theorem refHi_all : ∀ n : Fin 256, refHi (BitVec.ofNat 8 n.val) = hi (BitVec.ofNat 8 n.val) := by decide +kernel

/-- The two readings of the low four bits agree on every byte. -/
theorem refLo_eq (b : BitVec 8) : refLo b = lo b := by
  have := refLo_all ⟨b.toNat, b.isLt⟩
  simpa using this

/-- The two readings of the high four bits agree on every byte. -/
theorem refHi_eq (b : BitVec 8) : refHi b = hi b := by
  have := refHi_all ⟨b.toNat, b.isLt⟩
  simpa using this

/-- A word as an extended real. -/
def val (w : BitVec 32) : EReal := FloatOps.sitofp (F := Ideal) .bf16 w

/-- The unpacked weight of a channel: even channels in the low bits, odd channels in the high ones. -/
def nib (B : Fin 8192 → Fin 5120 → BitVec 8) (k : Fin 16384) (q : Fin 5120) : BitVec 32 :=
  if k.val % 2 = 0 then lo (B ⟨k.val / 2, by omega⟩ q) else hi (B ⟨k.val / 2, by omega⟩ q)

/-- One channel's contribution. -/
def term (Z : Fin 256 → Fin 16384 → EReal) (B : Fin 8192 → Fin 5120 → BitVec 8) (S : Fin 128 → Fin 5120 → EReal)
    (n : Fin 256) (q : Fin 5120) (k : Fin 16384) : EReal :=
  Z n k * (val (nib B k q) * S ⟨k.val / 128, by omega⟩ q)

/-- The product: all channels in order, then the column's scale. -/
def prod (Z : Fin 256 → Fin 16384 → EReal) (B : Fin 8192 → Fin 5120 → BitVec 8) (S : Fin 128 → Fin 5120 → EReal)
    (O : Fin 5120 → EReal) (n : Fin 256) (q : Fin 5120) : EReal :=
  (∑ k : Fin 16384, term Z B S n q k) * O q

/-- Channel `k` of trip `t`. -/
def chan (t : Fin 16) (k : Fin 1024) : Fin 16384 := ⟨1024 * t.val + k.val, by omega⟩

/-- The channels of row `r` of the packed weights. -/
def even (r : Fin 8192) : Fin 16384 := ⟨2 * r.val, by omega⟩
def odd (r : Fin 8192) : Fin 16384 := ⟨2 * r.val + 1, by omega⟩

def tripEquiv : Fin 16 × Fin 1024 ≃ Fin 16384 where
  toFun x := chan x.1 x.2
  invFun k := (⟨k.val / 1024, by omega⟩, ⟨k.val % 1024, by omega⟩)
  left_inv := by
    rintro ⟨t, k⟩
    refine Prod.ext (Fin.ext ?_) (Fin.ext ?_) <;> simp only [chan] <;> omega
  right_inv k := by apply Fin.ext; simp only [chan]; omega

/-- A sum over the channels, trip by trip. -/
theorem sum_trips (f : Fin 16384 → EReal) : ∑ k, f k = ∑ t : Fin 16, ∑ k : Fin 1024, f (chan t k) := by
  rw [← Equiv.sum_comp tripEquiv, Fintype.sum_prod_type]
  rfl

def rowEquiv : Fin 8192 × Fin 2 ≃ Fin 16384 where
  toFun x := ⟨2 * x.1.val + x.2.val, by omega⟩
  invFun k := (⟨k.val / 2, by omega⟩, ⟨k.val % 2, by omega⟩)
  left_inv := by
    rintro ⟨t, k⟩
    refine Prod.ext (Fin.ext ?_) (Fin.ext ?_) <;> simp only <;> omega
  right_inv k := by apply Fin.ext; simp only; omega

/-- A sum over the channels, the even and the odd apart. -/
theorem sum_parity (f : Fin 16384 → EReal) : ∑ k, f k = ∑ r, f (even r) + ∑ r, f (odd r) := by
  rw [← Equiv.sum_comp rowEquiv, Fintype.sum_prod_type, ← Finset.sum_add_distrib]
  refine Finset.sum_congr rfl fun r _ => ?_
  rw [Fin.sum_univ_two]
  rfl

/-- The contribution of an even channel. -/
theorem term_even (Z B S n q) (r : Fin 8192) :
    term Z B S n q (even r) = Z n (even r) * (val (refLo (B r q)) * S ⟨r.val / 64, by omega⟩ q) := by
  unfold term nib
  have h : (even r).val % 2 = 0 := by show 2 * r.val % 2 = 0; omega
  have hr : (⟨(even r).val / 2, by omega⟩ : Fin 8192) = r := by apply Fin.ext; show 2 * r.val / 2 = r.val; omega
  have hs : (⟨(even r).val / 128, by omega⟩ : Fin 128) = ⟨r.val / 64, by omega⟩ := by
    apply Fin.ext; show 2 * r.val / 128 = r.val / 64; omega
  rw [if_pos h, hr, hs, refLo_eq]

/-- The contribution of an odd channel. -/
theorem term_odd (Z B S n q) (r : Fin 8192) :
    term Z B S n q (odd r) = Z n (odd r) * (val (refHi (B r q)) * S ⟨r.val / 64, by omega⟩ q) := by
  unfold term nib
  have h : ¬(odd r).val % 2 = 0 := by show ¬(2 * r.val + 1) % 2 = 0; omega
  have hr : (⟨(odd r).val / 2, by omega⟩ : Fin 8192) = r := by apply Fin.ext; show (2 * r.val + 1) / 2 = r.val; omega
  have hs : (⟨(odd r).val / 128, by omega⟩ : Fin 128) = ⟨r.val / 64, by omega⟩ := by
    apply Fin.ext; show (2 * r.val + 1) / 128 = r.val / 64; omega
  rw [if_neg h, hr, hs, refHi_eq]

/-- The product as the reference orders it: even channels, plus odd channels, times the column's scale. -/
theorem prod_eq (Z B S O n q) :
    prod Z B S O n q
      = ((∑ r : Fin 8192, Z n (even r) * (val (refLo (B r q)) * S ⟨r.val / 64, by omega⟩ q))
        + ∑ r : Fin 8192, Z n (odd r) * (val (refHi (B r q)) * S ⟨r.val / 64, by omega⟩ q)) * O q := by
  unfold prod
  rw [sum_parity]
  simp only [term_even, term_odd]

end Cert.Mm

end
-- ==== Proof.MmVal.lean ====
/- What the quantized product's body leaves in its output block at the extended reals: sixteen trips' sums, one sum over
   all channels, times the column's scale. -/
module

public import proofs.«01_k».proof.Proof.MmOut
public import proofs.«01_k».proof.Proof.MmSpec
public import Idealize.ShloMosaic.Lib.ValueIdx
public import Idealize.ShloMosaic.Lib.ValueLayout
public import Idealize.ShloMosaic.Lib.MatmulPlain
public import Idealize.ShloMosaic.Lib.IdealHost

@[expose] public section

noncomputable section

namespace Cert.KernelIdeal.Hand

open Idealize.ShloMosaic Cert.KernelIdeal Cert.KernelIdeal.Gen ValueIdx Cert.Mm
open scoped BigOperators

/-- The loop has sixteen trips. -/
theorem trips_eq : k1_t1_loop.trips = 16 := by decide +kernel

/-- A trip's number. -/
def tr (k : Fin k1_t1_loop.trips) : Fin 16 := ⟨k.val, trips_eq ▸ k.isLt⟩

/-- The loads' offsets in closed form. -/
theorem off1_eq : ∀ k : Fin k1_t1_loop.trips, k1_off1 k = ![512 * k.val, 0] := by decide +kernel
theorem off2_eq : ∀ (k : Fin k1_t1_loop.trips) (g : Fin 8), k1_off2 k (BitVec.ofNat 32 g.val) = ![8 * k.val + g.val, 0] := by decide +kernel
theorem off3_eq : ∀ k : Fin k1_t1_loop.trips, k1_off3 k = ![0, 1024 * k.val] := by decide +kernel

/-- The packed weights a trip loads. -/
theorem ldW (x : Vec Ideal S8192x512 .i8) (k : Fin k1_t1_loop.trips) (r : Fin 512) (q : Fin 512) :
    wBlk x k (ix2 r q) = x (ix2 (⟨512 * (tr k).val + r.val, by have := (tr k).isLt; omega⟩ : Fin 8192) q) := by
  show x ((rW k).idx (ix2 r q)) = _
  congr 1
  funext a
  match a with
  | ⟨0, _⟩ => apply Fin.ext; show k1_off1 k 0 + 1 * r.val = 512 * k.val + r.val; rw [off1_eq]; show 512 * k.val + 1 * r.val = _; omega
  | ⟨1, _⟩ => apply Fin.ext; show k1_off1 k 1 + 1 * q.val = q.val; rw [off1_eq]; show 0 + 1 * q.val = _; omega

/-- A row of scales a trip loads. -/
theorem ldS (x : Vec Ideal S128x512 .f32) (k : Fin k1_t1_loop.trips) (g : Fin 8) (q : Fin 512) :
    sRow x k g (ix2 0 q) = x (ix2 (⟨8 * (tr k).val + g.val, by have := (tr k).isLt; omega⟩ : Fin 128) q) := by
  show x ((rS k g).idx (ix2 0 q)) = _
  congr 1
  funext a
  match a with
  | ⟨0, _⟩ => apply Fin.ext; show k1_off2 k (BitVec.ofNat 32 g.val) 0 + 1 * 0 = 8 * k.val + g.val; rw [off2_eq]; rfl
  | ⟨1, _⟩ => apply Fin.ext; show k1_off2 k (BitVec.ofNat 32 g.val) 1 + 1 * q.val = q.val; rw [off2_eq]; show 0 + 1 * q.val = _; omega

/-- The rotated tokens a trip loads. -/
theorem ldZ (x : Vec Ideal S256x16384 .bf16) (k : Fin k1_t1_loop.trips) (n : Fin 256) (j : Fin 1024) :
    zBlk x k (ix2 n j) = x (ix2 n (chan (tr k) j)) := by
  show x ((rZ k).idx (ix2 n j)) = _
  congr 1
  funext a
  match a with
  | ⟨0, _⟩ => apply Fin.ext; show k1_off3 k 0 + 1 * n.val = n.val; rw [off3_eq]; show 0 + 1 * n.val = _; omega
  | ⟨1, _⟩ => apply Fin.ext; show k1_off3 k 1 + 1 * j.val = 1024 * k.val + j.val; rw [off3_eq]; show 1024 * k.val + 1 * j.val = _; omega

/-- The two signed halves of every byte, one above the other: row `2r` the low, row `2r + 1` the high. -/
theorem pay5_apply (v : Vec Ideal S512x512 .i8) (j : Fin 1024) (q : Fin 512) :
    k1_pay5 (F := Ideal) v (ix2 j q)
      = val (if j.val % 2 = 0 then lo (v (ix2 (⟨j.val / 2, by omega⟩ : Fin 512) q)) else hi (v (ix2 (⟨j.val / 2, by omega⟩ : Fin 512) q))) := by
  unfold k1_pay5
  show val _ = val _
  congr 1
  refine (shapeCast_apply _ shapeCasts_S512x2x512_S1024x512 (ix2 j q)
    (ix3 (⟨j.val / 2, by omega⟩ : Fin 512) (⟨j.val % 2, by omega⟩ : Fin 2) q)
    (by rewrite [Shape.rowMajor_val_three, Shape.rowMajor_val_two]
        show (j.val / 2 * 2 + j.val % 2) * 512 + q.val = j.val * 512 + q.val
        omega)).trans ?_
  by_cases h : j.val % 2 = 0
  · rw [if_pos h]
    refine (concatenate_pair_apply_left (t := S512x2x512) (s₁ := S512x1x512) (s₂ := S512x1x512) 1 _ _ _ _ rfl
      (ix3 (⟨j.val / 2, by omega⟩ : Fin 512) (0 : Fin 1) q) ?_).trans ?_
    · intro b
      match b with
      | ⟨0, _⟩ => rfl
      | ⟨1, _⟩ => exact h.symm
      | ⟨2, _⟩ => rfl
    · refine (shapeCast_apply _ shapeCasts_S512x512_S512x1x512 _ (ix2 (⟨j.val / 2, by omega⟩ : Fin 512) q)
        (by rewrite [Shape.rowMajor_val_three, Shape.rowMajor_val_two]
            show j.val / 2 * 512 + q.val = (j.val / 2 * 1 + 0) * 512 + q.val
            omega)).trans ?_
      rfl
  · rw [if_neg h]
    refine (concatenate_pair_apply_right (t := S512x2x512) (s₁ := S512x1x512) (s₂ := S512x1x512) 1 _ _ _ _ rfl rfl
      (ix3 (⟨j.val / 2, by omega⟩ : Fin 512) (0 : Fin 1) q) ?_ ?_).trans ?_
    · intro b hb
      match b with
      | ⟨0, _⟩ => rfl
      | ⟨1, _⟩ => exact absurd rfl hb
      | ⟨2, _⟩ => rfl
    · show 0 + 1 = j.val % 2; omega
    · refine (shapeCast_apply _ shapeCasts_S512x512_S512x1x512 _ (ix2 (⟨j.val / 2, by omega⟩ : Fin 512) q)
        (by rewrite [Shape.rowMajor_val_three, Shape.rowMajor_val_two]
            show j.val / 2 * 512 + q.val = (j.val / 2 * 1 + 0) * 512 + q.val
            omega)).trans ?_
      rfl

/-- A row of scales repeated over sixteen rows. -/
theorem pay6_apply (v : Vec Ideal S1x512 .f32) (a : Fin 16) (q : Fin 512) :
    k1_pay6 (F := Ideal) v (ix2 a q) = v (ix2 0 q) := by
  unfold k1_pay6
  rw [shapeCast_self]
  exact broadcastTo_1b_ab_apply v broadcasts_S1x512_S16x512 a q

/-- The scaled weights of a trip at a row and a column. -/
theorem wts_apply (w : FVec Ideal S1024x512 .bf16) (s : Fin 8 → Vec Ideal S1x512 .f32) (j : Fin 1024) (q : Fin 512) :
    wts w s (ix2 j q) = w (ix2 j q) * s ⟨j.val / 128, by omega⟩ (ix2 0 q) := by
  unfold wts
  refine (concatenate_ofFn_apply (t := S1024x512) (s₁ := S16x512) 0 (fun n : Fin 64 => strip w s n) _ rfl 16 rfl _
    (⟨j.val / 16, by omega⟩ : Fin 64) rfl (ix2 (⟨j.val % 16, by omega⟩ : Fin 16) q) rfl ?_).trans ?_
  · intro b hb
    match b with
    | ⟨0, _⟩ => exact absurd rfl hb
    | ⟨1, _⟩ => rfl
  · unfold strip
    show _ * k1_pay6 (F := Ideal) _ _ = _
    rw [pay6_apply]
    congr 1
    · show w _ = w _
      congr 1
      funext a
      match a with
      | ⟨0, _⟩ => apply Fin.ext; show 16 * (j.val / 16) + j.val % 16 = j.val; omega
      | ⟨1, _⟩ => apply Fin.ext; show 0 + q.val = q.val; omega
    · have : (⟨j.val / 16 / 8, by omega⟩ : Fin 8) = ⟨j.val / 128, by omega⟩ := by apply Fin.ext; show j.val / 16 / 8 = j.val / 128; omega
      exact congrArg (fun g => s g (ix2 0 q)) this

/-- One accumulation: what was there plus the product of 1024 channels. -/
theorem pay3_apply (w : FVec Ideal S1024x512 .bf16) (z : Vec Ideal S256x1024 .bf16) (a : Vec Ideal S256x512 .f32) (n : Fin 256) (q : Fin 512) :
    k1_pay3 (F := Ideal) w z a (ix2 n q) = a (ix2 n q) + ∑ j : Fin 1024, z (ix2 n j) * w (ix2 j q) := by
  unfold k1_pay3
  rw [shapeCast_self, shapeCast_self]
  show a (ix2 n q) + FloatOps.matmul (F := Ideal) (DotDims.plain 256 1024 512) none z w (constant S256x512 .f32 0x00000000#32) (ix2 n q) = _
  rw [Ideal.matmul_plain_apply]
  have hz : (constant S256x512 .f32 0x00000000#32 : FVec Ideal S256x512 .f32) (ix2 n q) = 0 := Ideal.ofBits_zero_f32
  rw [hz, zero_add]

section Block

variable (x0 : Vec Ideal S256x16384 .bf16) (x1 : Vec Ideal S8192x512 .i8) (x2 : Vec Ideal S128x512 .bf16) (x3 : Vec Ideal S1x512 .f32)
  (Z : Fin 256 → Fin 16384 → EReal) (B : Fin 8192 → Fin 5120 → BitVec 8) (S : Fin 128 → Fin 5120 → EReal) (O : Fin 5120 → EReal)
  (cl : Fin 512 → Fin 5120)
  (h0 : ∀ n k, x0 (ix2 n k) = Z n k) (h1 : ∀ r q, x1 (ix2 r q) = B r (cl q)) (h2 : ∀ g q, x2 (ix2 g q) = S g (cl q))
  (h3 : ∀ q, x3 (ix2 0 q) = O (cl q))

include h0 h1 h2 in
/-- One trip adds its 1024 channels' contributions. -/
theorem trip_apply (k : Fin k1_t1_loop.trips) (a : Vec Ideal S256x512 .f32) (n : Fin 256) (q : Fin 512) :
    trip x0 x1 (k1_pay1 x2) k a (ix2 n q) = a (ix2 n q) + ∑ j : Fin 1024, term Z B S n (cl q) (chan (tr k) j) := by
  unfold trip
  rw [pay3_apply]
  congr 1
  refine Finset.sum_congr rfl fun j _ => ?_
  have hk : (tr k).val < 16 := (tr k).isLt
  have ep : k1_pay1 (F := Ideal) x2 = x2 := by unfold k1_pay1; exact shapeCast_self _ _
  have e2 : (chan (tr k) j).val / 2 = 512 * (tr k).val + j.val / 2 := by show (1024 * (tr k).val + j.val) / 2 = _; omega
  have em : (chan (tr k) j).val % 2 = j.val % 2 := by show (1024 * (tr k).val + j.val) % 2 = _; omega
  have es : (chan (tr k) j).val / 128 = 8 * (tr k).val + j.val / 128 := by show (1024 * (tr k).val + j.val) / 128 = _; omega
  have f2 : (⟨(chan (tr k) j).val / 2, by omega⟩ : Fin 8192) = ⟨512 * (tr k).val + j.val / 2, by omega⟩ := Fin.ext e2
  have fs : (⟨(chan (tr k) j).val / 128, by omega⟩ : Fin 128) = ⟨8 * (tr k).val + j.val / 128, by omega⟩ := Fin.ext es
  rw [ldZ, h0, wts_apply, pay5_apply, ldW, h1, ldS, ep, h2]
  unfold term nib
  rw [f2, fs, em]

include h0 h1 h2 in
/-- The accumulator before trip `k`: the contributions of the trips before it. -/
theorem acc_apply (n : Fin 256) (q : Fin 512) (k : ℕ) (hk : k ≤ 16) :
    acc x0 x1 (k1_pay1 x2) k (ix2 n q)
      = ∑ t ∈ Finset.range k, if h : t < 16 then ∑ j : Fin 1024, term Z B S n (cl q) (chan ⟨t, h⟩ j) else 0 := by
  induction k with
  | zero =>
    rw [Finset.sum_range_zero, acc]
    unfold k1_pay2
    rw [shapeCast_self]
    exact Ideal.ofBits_zero_f32
  | succ k ih =>
    have hlt : k < k1_t1_loop.trips := trips_eq.symm ▸ hk
    rw [acc, dif_pos hlt, trip_apply x0 x1 x2 Z B S cl h0 h1 h2, ih (Nat.le_of_succ_le hk), Finset.sum_range_succ, dif_pos (show k < 16 from hk)]
    rfl

include h0 h1 h2 h3 in
/-- The output block at a row and a column: the product. -/
theorem out1_apply (n : Fin 256) (q : Fin 512) :
    k1_pay4 (F := Ideal) (acc x0 x1 (k1_pay1 x2) k1_t1_loop.trips) x3 (ix2 n q) = prod Z B S O n (cl q) := by
  unfold k1_pay4
  rw [shapeCast_self]
  show acc x0 x1 (k1_pay1 x2) k1_t1_loop.trips (ix2 n q) * _ = _
  rw [trips_eq, acc_apply x0 x1 x2 Z B S cl h0 h1 h2 n q 16 le_rfl, broadcastTo_1b_ab_apply, h3]
  unfold prod
  rw [sum_trips, Finset.sum_range]
  simp only [Fin.is_lt, dite_true, Fin.eta]

end Block

end Cert.KernelIdeal.Hand

end
-- ==== Proof.MmArr.lean ====
/- The product's array after the second launch: the product over the arrays it finds. -/
module

public import proofs.«01_k».proof.Proof.MmVal
public import Idealize.ShloMosaic.Lib.Pipeline.ValueKit

@[expose] public section

set_option maxRecDepth 16384

noncomputable section

namespace Cert.KernelIdeal.Hand

open Idealize.ShloMosaic Idealize.ShloMosaic.TcCoe Idealize.SL.Sem Cert.KernelIdeal Cert.KernelIdeal.Gen Cert.Mm
open Idealize.ShloMosaic.Pipeline (Dat)

variable (V : Dev nD → (b : Ref sig .tc) → b.ty.Contents (Elt Ideal))

/-- Where the windows' blocks lie at each point. -/
theorem idx1 : ∀ t : Fin grid1.N, win1_0.index t = ![0, 0] ∧ win1_1.index t = ![0, t.val] ∧ win1_2.index t = ![0, t.val]
    ∧ win1_3.index t = ![0, t.val] ∧ win1_4.index t = ![0, t.val] := by
  decide +kernel

/-- Column `q` of the block at point `t`. -/
def col (t : Fin 10) (q : Fin 512) : Fin 5120 := ⟨512 * t.val + q.val, by omega⟩

/-- The product's array after the launch. -/
theorem mm_arr (c : Dev nD) (Z : Fin 256 → Fin 16384 → EReal) (B : Fin 8192 → Fin 5120 → BitVec 8) (S : Fin 128 → Fin 5120 → EReal) (O : Fin 5120 → EReal)
    (hZ : ∀ n k, (V c (Pipeline.arrRef spec1 0) : S256x16384.Idx → EReal) (ValueIdx.ix2 n k) = Z n k)
    (hB : ∀ r q, (V c (Pipeline.arrRef spec1 1) : S8192x5120.Idx → BitVec 8) (ValueIdx.ix2 r q) = B r q)
    (hS : ∀ g q, (V c (Pipeline.arrRef spec1 2) : S128x5120.Idx → EReal) (ValueIdx.ix2 g q) = S g q)
    (hO : ∀ q, (V c (Pipeline.arrRef spec1 3) : S1x5120.Idx → EReal) (ValueIdx.ix2 0 q) = O q) :
    (dat1 V c).arrAt 4 cfg1.N = fun i : S256x5120.Idx => prod Z B S O (i 0) (i 1) := by
  refine (dat1 V c).arrAt_eq_of_covers 4 _ (by decide +kernel) fun t hf y => ?_
  blk_simp
  rw [after1_4]
  unfold outsAt1
  rw [out1_eq]
  obtain ⟨e0, e1, e2, e3, e4⟩ := idx1 t
  have ht : t.val < 10 := t.isLt
  obtain ⟨n, q, rfl⟩ : ∃ (n : Fin 256) (q : Fin 512), y = ValueIdx.ix2 n q := ⟨_, _, ValueIdx.eq_ix2 y⟩
  refine (out1_apply _ _ _ _ Z B S O (col ⟨t.val, ht⟩) ?_ ?_ ?_ ?_ n q).trans ?_
  · intro n k
    rw [← hZ]
    show (V c (Pipeline.arrRef spec1 0) : S256x16384.Idx → EReal) ((win1_0.blk t).view.emb (ValueIdx.ix2 n k)) = _
    congr 1
    funext a
    match a with
    | ⟨0, _⟩ => apply Fin.ext; blk_simp [e0]
    | ⟨1, _⟩ => apply Fin.ext; blk_simp [e0]
  · intro r q
    rw [← hB]
    show (V c (Pipeline.arrRef spec1 1) : S8192x5120.Idx → BitVec 8) ((win1_1.blk t).view.emb (ValueIdx.ix2 r q)) = _
    congr 1
    funext a
    match a with
    | ⟨0, _⟩ => apply Fin.ext; blk_simp [e1]
    | ⟨1, _⟩ => apply Fin.ext; blk_simp [e1]; show t.val * 512 + q.val = 512 * t.val + q.val; omega
  · intro r q
    rw [← hS]
    show (V c (Pipeline.arrRef spec1 2) : S128x5120.Idx → EReal) ((win1_2.blk t).view.emb (ValueIdx.ix2 r q)) = _
    congr 1
    funext a
    match a with
    | ⟨0, _⟩ => apply Fin.ext; blk_simp [e2]
    | ⟨1, _⟩ => apply Fin.ext; blk_simp [e2]; show t.val * 512 + q.val = 512 * t.val + q.val; omega
  · intro q
    rw [← hO]
    show (V c (Pipeline.arrRef spec1 3) : S1x5120.Idx → EReal) ((win1_3.blk t).view.emb (ValueIdx.ix2 0 q)) = _
    congr 1
    funext a
    match a with
    | ⟨0, _⟩ => apply Fin.ext; blk_simp [e3]
    | ⟨1, _⟩ => apply Fin.ext; blk_simp [e3]; show t.val * 512 + q.val = 512 * t.val + q.val; omega
  · have f0 : (win1_4.blk t).view.emb (ValueIdx.ix2 n q) 0 = n := by
      apply Fin.ext; blk_simp [e4]; rfl
    have f1 : (win1_4.blk t).view.emb (ValueIdx.ix2 n q) 1 = col ⟨t.val, ht⟩ q := by
      apply Fin.ext; blk_simp [e4]; show t.val * 512 + q.val = 512 * t.val + q.val; omega
    rw [f0, f1]

end Cert.KernelIdeal.Hand

end
-- ==== Proof.Results.lean ====
/- What the two results hold at the end of the kernel's run, from the launch memory. -/
module

public import proofs.«01_k».proof.Proof.Host
public import proofs.«01_k».proof.Proof.Arrays
public import proofs.«01_k».proof.Proof.RotArr
public import proofs.«01_k».proof.Proof.MmArr
public import Idealize.ShloMosaic.Lib.ValueLayout

@[expose] public section

set_option maxRecDepth 16384

noncomputable section

namespace Cert.KernelIdeal.Hand

open Idealize.ShloMosaic Idealize.ShloMosaic.TcCoe Idealize.SL.Sem Cert.KernelIdeal Cert.KernelIdeal.Gen Cert.Rot Cert.Mm

variable (m : (ℓ : Loc nD τ sig) → Buf (Elt Ideal) ℓ) (ρ : Dev nD → PrngReg) (c : Dev nD)

/-- The tokens. -/
abbrev A0 : (⟨3, ![2, 128, 16384]⟩ : Shape).Idx → EReal := m ((c.tc : Thread nD τ).loc main_arg0)
/-- The rotation blocks. -/
abbrev A1 : (⟨4, ![3, 1024, 16, 16]⟩ : Shape).Idx → EReal := m ((c.tc : Thread nD τ).loc main_arg1)
/-- The packed weights. -/
abbrev A2 : (⟨2, ![8192, 5120]⟩ : Shape).Idx → BitVec 8 := m ((c.tc : Thread nD τ).loc main_arg2)
/-- The group scales. -/
abbrev A3 : (⟨2, ![128, 5120]⟩ : Shape).Idx → EReal := m ((c.tc : Thread nD τ).loc main_arg3)
/-- The channel scales. -/
abbrev A4 : (⟨1, ![5120]⟩ : Shape).Idx → EReal := m ((c.tc : Thread nD τ).loc main_arg4)

/-- The rotated tokens. -/
abbrev zrot : Fin 256 → Fin 16384 → EReal := grot (rows (A1 m c)) (tok (A0 m c))

/-- Reading the reshaped tokens. -/
theorem tok_cast (x : (⟨3, ![2, 128, 16384]⟩ : Shape).Idx → EReal) (n : Fin 256) (k : Fin 16384) :
    shapeCast S256x16384 x shapeCasts_S2x128x16384_S256x16384 (ValueIdx.ix2 n k) = tok x n k :=
  shapeCast_apply x shapeCasts_S2x128x16384_S256x16384 _ (ValueIdx.ix3 (⟨n.val / 128, by omega⟩ : Fin 2) (⟨n.val % 128, by omega⟩ : Fin 128) k)
    (by rewrite [Shape.rowMajor_val_three, Shape.rowMajor_val_two]
        show (n.val / 128 * 128 + n.val % 128) * 16384 + k.val = n.val * 16384 + k.val
        omega)

/-- Reading the reshaped rotation blocks. -/
theorem rows_cast (x : (⟨4, ![3, 1024, 16, 16]⟩ : Shape).Idx → EReal) (i : Fin 3) (r : Fin 16384) (k : Fin 16) :
    shapeCast S3x16384x16 x shapeCasts_S3x1024x16x16_S3x16384x16 (ValueIdx.ix3 i r k) = rows x i r k :=
  shapeCast_apply x shapeCasts_S3x1024x16x16_S3x16384x16 _ (ValueIdx.ix4 i (⟨r.val / 16, by omega⟩ : Fin 1024) (⟨r.val % 16, by omega⟩ : Fin 16) k)
    (by rewrite [Shape.rowMajor_val_four, Shape.rowMajor_val_three]
        show ((i.val * 1024 + r.val / 16) * 16 + r.val % 16) * 16 + k.val = (i.val * 16384 + r.val) * 16 + k.val
        omega)

/-- After the first launch its array holds the rotated tokens. -/
theorem W2_v2 : (W2 m ρ c (Proc.devRef .tc main_v2) : S256x16384.Idx → EReal) = fun i => zrot m c (i 0) (i 1) :=
  (W2_arr m ρ c 2).trans (rot_arr (V1 m ρ) c (tok (A0 m c)) (rows (A1 m c))
    (fun n q => (congrFun (W1_v0 m ρ c) (ValueIdx.ix2 n q)).trans (tok_cast _ n q))
    (fun i r k => (congrFun (W1_v1 m ρ c) (ValueIdx.ix3 i r k)).trans (rows_cast _ i r k)))

/-- The stretch between the launches leaves it. -/
theorem W3_v2 : (W3 m ρ c (Proc.devRef .tc main_v2) : S256x16384.Idx → EReal) = fun i => zrot m c (i 0) (i 1) :=
  (W3_of m ρ c main_v2 (by decide)).trans (W2_v2 m ρ c)

/-- The channel scales at the second launch. -/
theorem W3_v3_apply (q : Fin 5120) :
    (W3 m ρ c (Proc.devRef .tc main_v3) : S1x5120.Idx → EReal) (ValueIdx.ix2 0 q) = A4 m c (ValueIdx.ix1 q) := by
  refine (congrFun (W3_v3 m ρ c) (ValueIdx.ix2 0 q)).trans ((ValueIdx.shapeCast_a_1a_apply _ shapeCasts_S5120_S1x5120 0 q).trans ?_)
  exact congrFun (W2_args m ρ c main_arg4 (by decide)) (ValueIdx.ix1 q)

/-- The product of the rotated tokens. -/
abbrev mprod : Fin 256 → Fin 5120 → EReal :=
  prod (zrot m c) (fun r q => A2 m c (ValueIdx.ix2 r q)) (fun g q => A3 m c (ValueIdx.ix2 g q)) (fun q => A4 m c (ValueIdx.ix1 q))

/-- After the second launch its array holds the product. -/
theorem W4_v4 : (W4 m ρ c (Proc.devRef .tc main_v4) : S256x5120.Idx → EReal) = fun i => mprod m c (i 0) (i 1) :=
  (W4_arr m ρ c 4).trans (mm_arr (V3 m ρ) c _ _ _ _
    (fun n k => congrFun (W3_v2 m ρ c) (ValueIdx.ix2 n k))
    (fun r q => congrFun (W3_args m ρ c main_arg2 (by decide)) (ValueIdx.ix2 r q))
    (fun g q => congrFun (W3_args m ρ c main_arg3 (by decide)) (ValueIdx.ix2 g q))
    (fun q => W3_v3_apply m ρ c q))

/-- The second launch only reads the rotated tokens. -/
theorem W4_v2 : (W4 m ρ c (Proc.devRef .tc main_v2) : S256x16384.Idx → EReal) = fun i => zrot m c (i 0) (i 1) :=
  (W4_of m ρ c main_v2 (by decide +kernel)).trans (W3_v2 m ρ c)

/-- The first result, element by element. -/
theorem res5_apply (b : Fin 2) (s : Fin 128) (q : Fin 5120) :
    (W5 m ρ c (Proc.devRef .tc main_v5) : S2x128x5120.Idx → EReal) (ValueIdx.ix3 b s q) = mprod m c (nrow b s) q := by
  refine (congrFun (W5_v5 m ρ c) (ValueIdx.ix3 b s q)).trans ((shapeCast_apply _ shapeCasts_S256x5120_S2x128x5120 _ (ValueIdx.ix2 (nrow b s) q)
    (by rewrite [Shape.rowMajor_val_three, Shape.rowMajor_val_two]
        show (128 * b.val + s.val) * 5120 + q.val = (b.val * 128 + s.val) * 5120 + q.val
        omega)).trans ?_)
  exact congrFun (W4_v4 m ρ c) (ValueIdx.ix2 (nrow b s) q)

/-- The second result, element by element. -/
theorem res6_apply (b : Fin 2) (s : Fin 128) (k : Fin 16384) :
    (W5 m ρ c (Proc.devRef .tc main_v6) : S2x128x16384.Idx → EReal) (ValueIdx.ix3 b s k) = zrot m c (nrow b s) k := by
  refine (congrFun (W5_v6 m ρ c) (ValueIdx.ix3 b s k)).trans ((shapeCast_apply _ shapeCasts_S256x16384_S2x128x16384 _ (ValueIdx.ix2 (nrow b s) k)
    (by rewrite [Shape.rowMajor_val_three, Shape.rowMajor_val_two]
        show (128 * b.val + s.val) * 16384 + k.val = (b.val * 128 + s.val) * 16384 + k.val
        omega)).trans ?_)
  exact congrFun (W4_v2 m ρ c) (ValueIdx.ix2 (nrow b s) k)

end Cert.KernelIdeal.Hand

end
-- ==== Proof.RefRot.lean ====
/- The reference's rotation, read at an index: three steps over the channels in their own order. -/
module

public import proofs.«01_k».proof.Proof.Gen.ReferenceIdeal.Read
public import proofs.«01_k».proof.Proof.Arrays

@[expose] public section

noncomputable section

namespace Cert.ReferenceIdeal.Hand

open Idealize.ShloMosaic Cert.ReferenceIdeal Cert.ReferenceIdeal.Gen Cert.ReferenceIdeal.Read ValueIdx Cert.Rot
open scoped BigOperators

/-- Step 0's blocks at an index. -/
theorem blocks0_apply (x1 : (⟨S3x1024x16x16, .bf16⟩ : BufTy).Contents (Elt Ideal)) (c : Fin 1024) (t : Fin 1) (j k : Fin 16) :
    val_main_v3 (F := Ideal) x1 (ix4 c t j k) = x1 (ix4 0 (⟨1 * c.val + t.val, by omega⟩ : Fin 1024) j k) := by
  rw [val_main_v3_apply, val_main_v2_apply, val_main_v1_apply]
  congr 1
  have e1 : (((c.val * 1 + t.val) * 16 + j.val) * 16 + k.val) / 256 = 1 * c.val + t.val := by omega
  have e2 : (((c.val * 1 + t.val) * 16 + j.val) * 16 + k.val) / 16 % 16 = j.val := by omega
  have e3 : (((c.val * 1 + t.val) * 16 + j.val) * 16 + k.val) % 16 = k.val := by omega
  have e : idx_main_v3 (ix4 c t j k) = ix3 (⟨1 * c.val + t.val, by omega⟩ : Fin 1024) j k := by
    funext a
    match a with
    | ⟨0, _⟩ => exact Fin.ext e1
    | ⟨1, _⟩ => exact Fin.ext e2
    | ⟨2, _⟩ => exact Fin.ext e3
  rw [e]
  funext a
  match a with
  | ⟨0, _⟩ => apply Fin.ext; show 0 + 0 = 0; rfl
  | ⟨1, _⟩ => apply Fin.ext; show (((1 * c.val + t.val) * 16 + j.val) * 16 + k.val) / 256 % 1024 = 1 * c.val + t.val; omega
  | ⟨2, _⟩ => apply Fin.ext; show (((1 * c.val + t.val) * 16 + j.val) * 16 + k.val) / 16 % 16 = j.val; omega
  | ⟨3, _⟩ => apply Fin.ext; show (((1 * c.val + t.val) * 16 + j.val) * 16 + k.val) % 16 = k.val; omega

/-- Step 0's operand at an index. -/
theorem operand0_apply (x0 : (⟨S2x128x16384, .bf16⟩ : BufTy).Contents (Elt Ideal)) (b : Fin 2) (s : Fin 128) (c : Fin 1024) (j : Fin 16) (t : Fin 1) :
    val_main_v0 (F := Ideal) x0 (ix5 b s c j t) = x0 (ix3 b s (⟨16 * c.val + 1 * j.val + t.val, by omega⟩ : Fin 16384)) := by
  rw [val_main_v0_apply]
  congr 1
  funext a
  match a with
  | ⟨0, _⟩ => apply Fin.ext; show ((((b.val * 128 + s.val) * 1024 + c.val) * 16 + j.val) * 1 + t.val) / 2097152 = b.val; omega
  | ⟨1, _⟩ => apply Fin.ext; show ((((b.val * 128 + s.val) * 1024 + c.val) * 16 + j.val) * 1 + t.val) / 16384 % 128 = s.val; omega
  | ⟨2, _⟩ => apply Fin.ext; show ((((b.val * 128 + s.val) * 1024 + c.val) * 16 + j.val) * 1 + t.val) % 16384 = 16 * c.val + 1 * j.val + t.val; omega

/-- Step 0 at an index. -/
theorem step0_apply (x0 : (⟨S2x128x16384, .bf16⟩ : BufTy).Contents (Elt Ideal)) (x1 : (⟨S3x1024x16x16, .bf16⟩ : BufTy).Contents (Elt Ideal)) (b : Fin 2) (s : Fin 128) (c : Fin 16384) :
    val_main_v7 (F := Ideal) x0 x1 (ix3 b s c) = rstep src0 nb0 nk0 (rows x1 0) (tok x0) (nrow b s) c := by
  rw [val_main_v7_apply, val_main_v6_apply, val_main_v5_apply]
  have e : idx_main_v5 (idx_main_v6 (ix3 b s c))
      = ix5 (⟨c.val / 16, by omega⟩ : Fin 1024) (⟨c.val % 1, by omega⟩ : Fin 1) (⟨c.val / 1 % 16, by omega⟩ : Fin 16) b s := by
    funext a
    match a with
    | ⟨0, _⟩ => apply Fin.ext; show ((b.val * 128 + s.val) * 16384 + c.val) / 16 % 1024 = c.val / 16; omega
    | ⟨1, _⟩ => apply Fin.ext; show 0 = c.val % 1; omega
    | ⟨2, _⟩ => apply Fin.ext; show ((b.val * 128 + s.val) * 16384 + c.val) / 1 % 16 = c.val / 1 % 16; omega
    | ⟨3, _⟩ => apply Fin.ext; show ((b.val * 128 + s.val) * 16384 + c.val) / 2097152 = b.val; omega
    | ⟨4, _⟩ => apply Fin.ext; show ((b.val * 128 + s.val) * 16384 + c.val) / 16384 % 128 = s.val; omega
  rw [e, val_main_v4_apply]
  refine Finset.sum_congr rfl fun j _ => ?_
  have el : lidx_main_v4 (ix5 (⟨c.val / 16, by omega⟩ : Fin 1024) (⟨c.val % 1, by omega⟩ : Fin 1) (⟨c.val / 1 % 16, by omega⟩ : Fin 16) b s) j
      = ix4 (⟨c.val / 16, by omega⟩ : Fin 1024) (⟨c.val % 1, by omega⟩ : Fin 1) j (⟨c.val / 1 % 16, by omega⟩ : Fin 16) := by
    funext a
    match a with
    | ⟨0, _⟩ => rfl
    | ⟨1, _⟩ => rfl
    | ⟨2, _⟩ => rfl
    | ⟨3, _⟩ => rfl
  have er : ridx_main_v4 (ix5 (⟨c.val / 16, by omega⟩ : Fin 1024) (⟨c.val % 1, by omega⟩ : Fin 1) (⟨c.val / 1 % 16, by omega⟩ : Fin 16) b s) j
      = ix5 b s (⟨c.val / 16, by omega⟩ : Fin 1024) j (⟨c.val % 1, by omega⟩ : Fin 1) := by
    funext a
    match a with
    | ⟨0, _⟩ => rfl
    | ⟨1, _⟩ => rfl
    | ⟨2, _⟩ => rfl
    | ⟨3, _⟩ => rfl
    | ⟨4, _⟩ => rfl
  rw [el, er, blocks0_apply, operand0_apply, rows_at16, tok_nrow, mul_comm]
  have e1 : (⟨16 * (c.val / 16) + 1 * j.val + c.val % 1, by omega⟩ : Fin 16384) = src0 c j := by
    apply Fin.ext; simp only [src0]; omega
  have e2 : (⟨1 * (c.val / 16) + c.val % 1, by omega⟩ : Fin 1024) = nb0 c := by
    apply Fin.ext; simp only [nb0]; omega
  have e3 : (⟨c.val / 1 % 16, by omega⟩ : Fin 16) = nk0 c := by
    apply Fin.ext; simp only [nk0]; omega
  rw [e1, e2, e3]

/-- Step 1's blocks at an index. -/
theorem blocks1_apply (x1 : (⟨S3x1024x16x16, .bf16⟩ : BufTy).Contents (Elt Ideal)) (c : Fin 512) (t : Fin 2) (j k : Fin 16) :
    val_main_v11 (F := Ideal) x1 (ix4 c t j k) = x1 (ix4 1 (⟨2 * c.val + t.val, by omega⟩ : Fin 1024) j k) := by
  rw [val_main_v11_apply, val_main_v10_apply, val_main_v9_apply]
  congr 1
  have e1 : (((c.val * 2 + t.val) * 16 + j.val) * 16 + k.val) / 256 = 2 * c.val + t.val := by omega
  have e2 : (((c.val * 2 + t.val) * 16 + j.val) * 16 + k.val) / 16 % 16 = j.val := by omega
  have e3 : (((c.val * 2 + t.val) * 16 + j.val) * 16 + k.val) % 16 = k.val := by omega
  have e : idx_main_v11 (ix4 c t j k) = ix3 (⟨2 * c.val + t.val, by omega⟩ : Fin 1024) j k := by
    funext a
    match a with
    | ⟨0, _⟩ => exact Fin.ext e1
    | ⟨1, _⟩ => exact Fin.ext e2
    | ⟨2, _⟩ => exact Fin.ext e3
  rw [e]
  funext a
  match a with
  | ⟨0, _⟩ => apply Fin.ext; show 1 + 0 = 1; rfl
  | ⟨1, _⟩ => apply Fin.ext; show (((2 * c.val + t.val) * 16 + j.val) * 16 + k.val) / 256 % 1024 = 2 * c.val + t.val; omega
  | ⟨2, _⟩ => apply Fin.ext; show (((2 * c.val + t.val) * 16 + j.val) * 16 + k.val) / 16 % 16 = j.val; omega
  | ⟨3, _⟩ => apply Fin.ext; show (((2 * c.val + t.val) * 16 + j.val) * 16 + k.val) % 16 = k.val; omega

/-- Step 1's operand at an index. -/
theorem operand1_apply (x0 : (⟨S2x128x16384, .bf16⟩ : BufTy).Contents (Elt Ideal)) (x1 : (⟨S3x1024x16x16, .bf16⟩ : BufTy).Contents (Elt Ideal)) (b : Fin 2) (s : Fin 128) (c : Fin 512) (j : Fin 16) (t : Fin 2) :
    val_main_v8 (F := Ideal) x0 x1 (ix5 b s c j t) = (val_main_v7 (F := Ideal) x0 x1) (ix3 b s (⟨32 * c.val + 2 * j.val + t.val, by omega⟩ : Fin 16384)) := by
  rw [val_main_v8_apply]
  congr 1
  funext a
  match a with
  | ⟨0, _⟩ => apply Fin.ext; show ((((b.val * 128 + s.val) * 512 + c.val) * 16 + j.val) * 2 + t.val) / 2097152 = b.val; omega
  | ⟨1, _⟩ => apply Fin.ext; show ((((b.val * 128 + s.val) * 512 + c.val) * 16 + j.val) * 2 + t.val) / 16384 % 128 = s.val; omega
  | ⟨2, _⟩ => apply Fin.ext; show ((((b.val * 128 + s.val) * 512 + c.val) * 16 + j.val) * 2 + t.val) % 16384 = 32 * c.val + 2 * j.val + t.val; omega

/-- Step 1 at an index. -/
theorem step1_apply (x0 : (⟨S2x128x16384, .bf16⟩ : BufTy).Contents (Elt Ideal)) (x1 : (⟨S3x1024x16x16, .bf16⟩ : BufTy).Contents (Elt Ideal)) (b : Fin 2) (s : Fin 128) (c : Fin 16384) :
    val_main_v15 (F := Ideal) x0 x1 (ix3 b s c) = rstep src1 nb1 nk1 (rows x1 1) (tok (val_main_v7 (F := Ideal) x0 x1)) (nrow b s) c := by
  rw [val_main_v15_apply, val_main_v14_apply, val_main_v13_apply]
  have e : idx_main_v13 (idx_main_v14 (ix3 b s c))
      = ix5 (⟨c.val / 32, by omega⟩ : Fin 512) (⟨c.val % 2, by omega⟩ : Fin 2) (⟨c.val / 2 % 16, by omega⟩ : Fin 16) b s := by
    funext a
    match a with
    | ⟨0, _⟩ => apply Fin.ext; show ((b.val * 128 + s.val) * 16384 + c.val) / 32 % 512 = c.val / 32; omega
    | ⟨1, _⟩ => apply Fin.ext; show ((b.val * 128 + s.val) * 16384 + c.val) % 2 = c.val % 2; omega
    | ⟨2, _⟩ => apply Fin.ext; show ((b.val * 128 + s.val) * 16384 + c.val) / 2 % 16 = c.val / 2 % 16; omega
    | ⟨3, _⟩ => apply Fin.ext; show ((b.val * 128 + s.val) * 16384 + c.val) / 2097152 = b.val; omega
    | ⟨4, _⟩ => apply Fin.ext; show ((b.val * 128 + s.val) * 16384 + c.val) / 16384 % 128 = s.val; omega
  rw [e, val_main_v12_apply]
  refine Finset.sum_congr rfl fun j _ => ?_
  have el : lidx_main_v12 (ix5 (⟨c.val / 32, by omega⟩ : Fin 512) (⟨c.val % 2, by omega⟩ : Fin 2) (⟨c.val / 2 % 16, by omega⟩ : Fin 16) b s) j
      = ix4 (⟨c.val / 32, by omega⟩ : Fin 512) (⟨c.val % 2, by omega⟩ : Fin 2) j (⟨c.val / 2 % 16, by omega⟩ : Fin 16) := by
    funext a
    match a with
    | ⟨0, _⟩ => rfl
    | ⟨1, _⟩ => rfl
    | ⟨2, _⟩ => rfl
    | ⟨3, _⟩ => rfl
  have er : ridx_main_v12 (ix5 (⟨c.val / 32, by omega⟩ : Fin 512) (⟨c.val % 2, by omega⟩ : Fin 2) (⟨c.val / 2 % 16, by omega⟩ : Fin 16) b s) j
      = ix5 b s (⟨c.val / 32, by omega⟩ : Fin 512) j (⟨c.val % 2, by omega⟩ : Fin 2) := by
    funext a
    match a with
    | ⟨0, _⟩ => rfl
    | ⟨1, _⟩ => rfl
    | ⟨2, _⟩ => rfl
    | ⟨3, _⟩ => rfl
    | ⟨4, _⟩ => rfl
  rw [el, er, blocks1_apply, operand1_apply, rows_at16, tok_nrow, mul_comm]
  have e1 : (⟨32 * (c.val / 32) + 2 * j.val + c.val % 2, by omega⟩ : Fin 16384) = src1 c j := by
    apply Fin.ext; simp only [src1]
  have e2 : (⟨2 * (c.val / 32) + c.val % 2, by omega⟩ : Fin 1024) = nb1 c := by
    apply Fin.ext; simp only [nb1]
  have e3 : (⟨c.val / 2 % 16, by omega⟩ : Fin 16) = nk1 c := by
    apply Fin.ext; simp only [nk1]
  rw [e1, e2, e3]

/-- Step 2's blocks at an index. -/
theorem blocks2_apply (x1 : (⟨S3x1024x16x16, .bf16⟩ : BufTy).Contents (Elt Ideal)) (c : Fin 256) (t : Fin 4) (j k : Fin 16) :
    val_main_v19 (F := Ideal) x1 (ix4 c t j k) = x1 (ix4 2 (⟨4 * c.val + t.val, by omega⟩ : Fin 1024) j k) := by
  rw [val_main_v19_apply, val_main_v18_apply, val_main_v17_apply]
  congr 1
  have e1 : (((c.val * 4 + t.val) * 16 + j.val) * 16 + k.val) / 256 = 4 * c.val + t.val := by omega
  have e2 : (((c.val * 4 + t.val) * 16 + j.val) * 16 + k.val) / 16 % 16 = j.val := by omega
  have e3 : (((c.val * 4 + t.val) * 16 + j.val) * 16 + k.val) % 16 = k.val := by omega
  have e : idx_main_v19 (ix4 c t j k) = ix3 (⟨4 * c.val + t.val, by omega⟩ : Fin 1024) j k := by
    funext a
    match a with
    | ⟨0, _⟩ => exact Fin.ext e1
    | ⟨1, _⟩ => exact Fin.ext e2
    | ⟨2, _⟩ => exact Fin.ext e3
  rw [e]
  funext a
  match a with
  | ⟨0, _⟩ => apply Fin.ext; show 2 + 0 = 2; rfl
  | ⟨1, _⟩ => apply Fin.ext; show (((4 * c.val + t.val) * 16 + j.val) * 16 + k.val) / 256 % 1024 = 4 * c.val + t.val; omega
  | ⟨2, _⟩ => apply Fin.ext; show (((4 * c.val + t.val) * 16 + j.val) * 16 + k.val) / 16 % 16 = j.val; omega
  | ⟨3, _⟩ => apply Fin.ext; show (((4 * c.val + t.val) * 16 + j.val) * 16 + k.val) % 16 = k.val; omega

/-- Step 2's operand at an index. -/
theorem operand2_apply (x0 : (⟨S2x128x16384, .bf16⟩ : BufTy).Contents (Elt Ideal)) (x1 : (⟨S3x1024x16x16, .bf16⟩ : BufTy).Contents (Elt Ideal)) (b : Fin 2) (s : Fin 128) (c : Fin 256) (j : Fin 16) (t : Fin 4) :
    val_main_v16 (F := Ideal) x0 x1 (ix5 b s c j t) = (val_main_v15 (F := Ideal) x0 x1) (ix3 b s (⟨64 * c.val + 4 * j.val + t.val, by omega⟩ : Fin 16384)) := by
  rw [val_main_v16_apply]
  congr 1
  funext a
  match a with
  | ⟨0, _⟩ => apply Fin.ext; show ((((b.val * 128 + s.val) * 256 + c.val) * 16 + j.val) * 4 + t.val) / 2097152 = b.val; omega
  | ⟨1, _⟩ => apply Fin.ext; show ((((b.val * 128 + s.val) * 256 + c.val) * 16 + j.val) * 4 + t.val) / 16384 % 128 = s.val; omega
  | ⟨2, _⟩ => apply Fin.ext; show ((((b.val * 128 + s.val) * 256 + c.val) * 16 + j.val) * 4 + t.val) % 16384 = 64 * c.val + 4 * j.val + t.val; omega

/-- Step 2 at an index. -/
theorem step2_apply (x0 : (⟨S2x128x16384, .bf16⟩ : BufTy).Contents (Elt Ideal)) (x1 : (⟨S3x1024x16x16, .bf16⟩ : BufTy).Contents (Elt Ideal)) (b : Fin 2) (s : Fin 128) (c : Fin 16384) :
    val_main_v23 (F := Ideal) x0 x1 (ix3 b s c) = rstep src2 nb2 nk2 (rows x1 2) (tok (val_main_v15 (F := Ideal) x0 x1)) (nrow b s) c := by
  rw [val_main_v23_apply, val_main_v22_apply, val_main_v21_apply]
  have e : idx_main_v21 (idx_main_v22 (ix3 b s c))
      = ix5 (⟨c.val / 64, by omega⟩ : Fin 256) (⟨c.val % 4, by omega⟩ : Fin 4) (⟨c.val / 4 % 16, by omega⟩ : Fin 16) b s := by
    funext a
    match a with
    | ⟨0, _⟩ => apply Fin.ext; show ((b.val * 128 + s.val) * 16384 + c.val) / 64 % 256 = c.val / 64; omega
    | ⟨1, _⟩ => apply Fin.ext; show ((b.val * 128 + s.val) * 16384 + c.val) % 4 = c.val % 4; omega
    | ⟨2, _⟩ => apply Fin.ext; show ((b.val * 128 + s.val) * 16384 + c.val) / 4 % 16 = c.val / 4 % 16; omega
    | ⟨3, _⟩ => apply Fin.ext; show ((b.val * 128 + s.val) * 16384 + c.val) / 2097152 = b.val; omega
    | ⟨4, _⟩ => apply Fin.ext; show ((b.val * 128 + s.val) * 16384 + c.val) / 16384 % 128 = s.val; omega
  rw [e, val_main_v20_apply]
  refine Finset.sum_congr rfl fun j _ => ?_
  have el : lidx_main_v20 (ix5 (⟨c.val / 64, by omega⟩ : Fin 256) (⟨c.val % 4, by omega⟩ : Fin 4) (⟨c.val / 4 % 16, by omega⟩ : Fin 16) b s) j
      = ix4 (⟨c.val / 64, by omega⟩ : Fin 256) (⟨c.val % 4, by omega⟩ : Fin 4) j (⟨c.val / 4 % 16, by omega⟩ : Fin 16) := by
    funext a
    match a with
    | ⟨0, _⟩ => rfl
    | ⟨1, _⟩ => rfl
    | ⟨2, _⟩ => rfl
    | ⟨3, _⟩ => rfl
  have er : ridx_main_v20 (ix5 (⟨c.val / 64, by omega⟩ : Fin 256) (⟨c.val % 4, by omega⟩ : Fin 4) (⟨c.val / 4 % 16, by omega⟩ : Fin 16) b s) j
      = ix5 b s (⟨c.val / 64, by omega⟩ : Fin 256) j (⟨c.val % 4, by omega⟩ : Fin 4) := by
    funext a
    match a with
    | ⟨0, _⟩ => rfl
    | ⟨1, _⟩ => rfl
    | ⟨2, _⟩ => rfl
    | ⟨3, _⟩ => rfl
    | ⟨4, _⟩ => rfl
  rw [el, er, blocks2_apply, operand2_apply, rows_at16, tok_nrow, mul_comm]
  have e1 : (⟨64 * (c.val / 64) + 4 * j.val + c.val % 4, by omega⟩ : Fin 16384) = src2 c j := by
    apply Fin.ext; simp only [src2]
  have e2 : (⟨4 * (c.val / 64) + c.val % 4, by omega⟩ : Fin 1024) = nb2 c := by
    apply Fin.ext; simp only [nb2]
  have e3 : (⟨c.val / 4 % 16, by omega⟩ : Fin 16) = nk2 c := by
    apply Fin.ext; simp only [nk2]
  rw [e1, e2, e3]

/-- The rotated tokens as functions of a row number and a channel. -/
theorem tok_step {f : Fin 256 → Fin 16384 → EReal} {x : (⟨3, ![2, 128, 16384]⟩ : Shape).Idx → EReal}
    (h : ∀ b s c, x (ix3 b s c) = f (nrow b s) c) : tok x = f := by
  funext n c
  have e : nrow (⟨n.val / 128, by omega⟩ : Fin 2) (⟨n.val % 128, by omega⟩ : Fin 128) = n := by
    apply Fin.ext; simp only [nrow]; omega
  exact (h _ _ c).trans (by rw [e])

/-- The reference's second result at an index: the rotation. -/
theorem rot_apply (x0 : (⟨S2x128x16384, .bf16⟩ : BufTy).Contents (Elt Ideal)) (x1 : (⟨S3x1024x16x16, .bf16⟩ : BufTy).Contents (Elt Ideal))
    (b : Fin 2) (s : Fin 128) (c : Fin 16384) :
    val_main_v23 (F := Ideal) x0 x1 (ix3 b s c) = rrot (rows x1) (tok x0) (nrow b s) c := by
  rw [step2_apply, tok_step (step1_apply x0 x1), tok_step (step0_apply x0 x1)]
  rfl

end Cert.ReferenceIdeal.Hand

end
-- ==== Proof.RefMm.lean ====
/- The reference's first result, read at an index: the even and the odd channels' products, added and scaled. -/
module

public import proofs.«01_k».proof.Proof.RefRot
public import proofs.«01_k».proof.Proof.MmSpec

@[expose] public section

noncomputable section

namespace Cert.ReferenceIdeal.Hand

open Idealize.ShloMosaic Cert.ReferenceIdeal Cert.ReferenceIdeal.Gen Cert.ReferenceIdeal.Read ValueIdx Cert.Rot Cert.Mm
open scoped BigOperators

/-- The rotated tokens' even channels at an index. -/
theorem even_apply (x0 : (⟨S2x128x16384, .bf16⟩ : BufTy).Contents (Elt Ideal)) (x1 : (⟨S3x1024x16x16, .bf16⟩ : BufTy).Contents (Elt Ideal))
    (b : Fin 2) (s : Fin 128) (r : Fin 8192) :
    val_main_v45 (F := Ideal) x0 x1 (ix3 b s r) = rrot (rows x1) (tok x0) (nrow b s) (even r) := by
  rw [← rot_apply]
  unfold val_main_v45
  generalize val_main_v23 (F := Ideal) x0 x1 = y
  show y _ = y _
  congr 1
  funext a
  match a with
  | ⟨0, _⟩ => apply Fin.ext; show 0 + 1 * b.val = b.val; omega
  | ⟨1, _⟩ => apply Fin.ext; show 0 + 1 * s.val = s.val; omega
  | ⟨2, _⟩ => apply Fin.ext; show 0 + 2 * r.val = 2 * r.val; omega

/-- The rotated tokens' odd channels at an index. -/
theorem odd_apply (x0 : (⟨S2x128x16384, .bf16⟩ : BufTy).Contents (Elt Ideal)) (x1 : (⟨S3x1024x16x16, .bf16⟩ : BufTy).Contents (Elt Ideal))
    (b : Fin 2) (s : Fin 128) (r : Fin 8192) :
    val_main_v47 (F := Ideal) x0 x1 (ix3 b s r) = rrot (rows x1) (tok x0) (nrow b s) (odd r) := by
  rw [← rot_apply]
  unfold val_main_v47
  generalize val_main_v23 (F := Ideal) x0 x1 = y
  show y _ = y _
  congr 1
  funext a
  match a with
  | ⟨0, _⟩ => apply Fin.ext; show 0 + 1 * b.val = b.val; omega
  | ⟨1, _⟩ => apply Fin.ext; show 0 + 1 * s.val = s.val; omega
  | ⟨2, _⟩ => apply Fin.ext; show 1 + 2 * r.val = 2 * r.val + 1; omega

/-- The repeated scales at an index: 64 rows of bytes share a row of scales. -/
theorem scale_apply (x3 : (⟨S128x5120, .bf16⟩ : BufTy).Contents (Elt Ideal)) (r : Fin 8192) (q : Fin 5120) :
    val_main_v25 (F := Ideal) x3 (ix2 r q) = x3 (ix2 (⟨r.val / 64, by omega⟩ : Fin 128) q) := by
  rw [val_main_v25_apply, val_main_v24_apply]
  congr 1
  funext a
  match a with
  | ⟨0, _⟩ => apply Fin.ext; show (r.val * 5120 + q.val) / 327680 = r.val / 64; omega
  | ⟨1, _⟩ => apply Fin.ext; show (r.val * 5120 + q.val) % 5120 = q.val; omega

/-- The scaled weights of the even channels at an index. -/
theorem weven_apply (x2 : (⟨S8192x5120, .i8⟩ : BufTy).Contents (Elt Ideal)) (x3 : (⟨S128x5120, .bf16⟩ : BufTy).Contents (Elt Ideal)) (r : Fin 8192) (q : Fin 5120) :
    val_main_v35 (F := Ideal) x2 x3 (ix2 r q) = val (refLo (x2 (ix2 r q))) * x3 (ix2 (⟨r.val / 64, by omega⟩ : Fin 128) q) := by
  rw [val_main_v35_apply, scale_apply]
  rfl

/-- The scaled weights of the odd channels at an index. -/
theorem wodd_apply (x2 : (⟨S8192x5120, .i8⟩ : BufTy).Contents (Elt Ideal)) (x3 : (⟨S128x5120, .bf16⟩ : BufTy).Contents (Elt Ideal)) (r : Fin 8192) (q : Fin 5120) :
    val_main_v44 (F := Ideal) x2 x3 (ix2 r q) = val (refHi (x2 (ix2 r q))) * x3 (ix2 (⟨r.val / 64, by omega⟩ : Fin 128) q) := by
  rw [val_main_v44_apply, scale_apply]
  rfl

theorem lidx46 (b : Fin 2) (s : Fin 128) (q : Fin 5120) (r : Fin 8192) : lidx_main_v46 (ix3 b s q) r = ix3 b s r := by
  funext a
  match a with
  | ⟨0, _⟩ => rfl
  | ⟨1, _⟩ => rfl
  | ⟨2, _⟩ => rfl
theorem ridx46 (b : Fin 2) (s : Fin 128) (q : Fin 5120) (r : Fin 8192) : ridx_main_v46 (ix3 b s q) r = ix2 r q := by
  funext a
  match a with
  | ⟨0, _⟩ => rfl
  | ⟨1, _⟩ => rfl
theorem lidx48 (b : Fin 2) (s : Fin 128) (q : Fin 5120) (r : Fin 8192) : lidx_main_v48 (ix3 b s q) r = ix3 b s r := by
  funext a
  match a with
  | ⟨0, _⟩ => rfl
  | ⟨1, _⟩ => rfl
  | ⟨2, _⟩ => rfl
theorem ridx48 (b : Fin 2) (s : Fin 128) (q : Fin 5120) (r : Fin 8192) : ridx_main_v48 (ix3 b s q) r = ix2 r q := by
  funext a
  match a with
  | ⟨0, _⟩ => rfl
  | ⟨1, _⟩ => rfl

/-- The output scales at an index. -/
theorem oscale_apply (x4 : (⟨S5120, .f32⟩ : BufTy).Contents (Elt Ideal)) (b : Fin 2) (s : Fin 128) (q : Fin 5120) :
    val_main_v51 (F := Ideal) x4 (ix3 b s q) = x4 (ix1 q) := by
  rw [val_main_v51_apply, val_main_v50_apply]
  congr 1
  funext a
  match a with
  | ⟨0, _⟩ => rfl

/-- The first result at an index: the product of the rotated tokens with the unpacked weights. -/
theorem mm_apply (x0 : (⟨S2x128x16384, .bf16⟩ : BufTy).Contents (Elt Ideal)) (x1 : (⟨S3x1024x16x16, .bf16⟩ : BufTy).Contents (Elt Ideal))
    (x2 : (⟨S8192x5120, .i8⟩ : BufTy).Contents (Elt Ideal)) (x3 : (⟨S128x5120, .bf16⟩ : BufTy).Contents (Elt Ideal)) (x4 : (⟨S5120, .f32⟩ : BufTy).Contents (Elt Ideal))
    (b : Fin 2) (s : Fin 128) (q : Fin 5120) :
    val_main_v53 (F := Ideal) x0 x1 x2 x3 x4 (ix3 b s q)
      = prod (rrot (rows x1) (tok x0)) (fun r q => x2 (ix2 r q)) (fun g q => x3 (ix2 g q)) (fun q => x4 (ix1 q)) (nrow b s) q := by
  rw [prod_eq, val_main_v53_apply, val_main_v52_apply, val_main_v49_apply, oscale_apply, val_main_v46_apply, val_main_v48_apply]
  simp only [lidx46, ridx46, lidx48, ridx48, even_apply, odd_apply, weven_apply, wodd_apply]
  rfl

end Cert.ReferenceIdeal.Hand

end
-- ==== Proof.Equation.lean ====
/- The equation: the kernel's two results are the reference's terms of the same arguments. -/
module

public import proofs.«01_k».proof.Proof.Results
public import proofs.«01_k».proof.Proof.RefRot
public import proofs.«01_k».proof.Proof.RefMm

@[expose] public section

noncomputable section

namespace Cert.KernelIdeal.Hand

open Idealize.ShloMosaic Idealize.ShloMosaic.TcCoe Idealize.SL.Sem Cert.KernelIdeal Cert.KernelIdeal.Gen Cert.Rot Cert.Mm

variable (m : (ℓ : Loc nD τ sig) → Buf (Elt Ideal) ℓ) (ρ : Dev nD → PrngReg) (c : Dev nD)

/-- The rotation that the kernel computes is the reference's. -/
theorem zrot_eq : zrot m c = rrot (rows (A1 m c)) (tok (A0 m c)) := grot_eq _ _

/-- The first result. -/
theorem res5_eq : (W5 m ρ c (Proc.devRef .tc main_v5) : S2x128x5120.Idx → EReal)
    = Cert.ReferenceIdeal.Read.val_main_v53 (F := Ideal) (A0 m c) (A1 m c) (A2 m c) (A3 m c) (A4 m c) := by
  funext i
  obtain ⟨b, s, q, rfl⟩ : ∃ (b : Fin 2) (s : Fin 128) (q : Fin 5120), i = ValueIdx.ix3 b s q := ⟨_, _, _, ValueIdx.eq_ix3 i⟩
  refine (res5_apply m ρ c b s q).trans (Eq.trans ?_ (Cert.ReferenceIdeal.Hand.mm_apply (A0 m c) (A1 m c) (A2 m c) (A3 m c) (A4 m c) b s q).symm)
  unfold mprod
  rw [zrot_eq]

/-- The second result. -/
theorem res6_eq : (W5 m ρ c (Proc.devRef .tc main_v6) : S2x128x16384.Idx → EReal)
    = Cert.ReferenceIdeal.Read.val_main_v23 (F := Ideal) (A0 m c) (A1 m c) := by
  funext i
  obtain ⟨b, s, k, rfl⟩ : ∃ (b : Fin 2) (s : Fin 128) (k : Fin 16384), i = ValueIdx.ix3 b s k := ⟨_, _, _, ValueIdx.eq_ix3 i⟩
  refine (res6_apply m ρ c b s k).trans (Eq.trans ?_ (Cert.ReferenceIdeal.Hand.rot_apply (A0 m c) (A1 m c) b s k).symm)
  rw [zrot_eq]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem

/-- The value claim: both programs run at the exact arithmetic, from memories that agree on the arguments, and end with
    equal results. The kernel's run names its results as the last boundary's contents; these are the reference's terms of
    the arguments (`res5_eq`, `res6_eq`), which the reference's run ends at. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W5 m g c (Proc.devRef .tc Cert.KernelIdeal.main_v5),
    fun c => Cert.KernelIdeal.Gen.W5 m g c (Proc.devRef .tc Cert.KernelIdeal.main_v6), Cert.KernelIdeal.Hand.run_results m g, ?_⟩
  refine (θ_run Cert.ReferenceIdeal.defs _ _).mono (fun r h c => ?_) (Cert.ReferenceIdeal.Value.run (F := Ideal) m' g')
  obtain ⟨h0, h1, hargs⟩ := h c
  obtain ⟨a0, a1, a2, a3, a4⟩ := hagree c
  refine ⟨?_, ?_, hargs⟩
  · refine (h0.trans (Cert.ReferenceIdeal.Read.val_main_v53_eq m' c)).trans (Eq.trans ?_ (Cert.KernelIdeal.Hand.res5_eq m g c).symm)
    rw [a0, a1, a2, a3, a4]
  · refine (h1.trans (Cert.ReferenceIdeal.Read.val_main_v23_eq _ _)).trans (Eq.trans ?_ (Cert.KernelIdeal.Hand.res6_eq m g c).symm)
    rw [a0, a1]

/-- The whole claim: the three programs' frames, the idealization, and the equality of results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    Cert.ReferenceIdeal.Hand.frame_ref, trivial, algebraic⟩

end Cert.Proof

end
